-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "s" .bf16 0x3DB5#16 ((11863283 / 134217728 : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v64) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)

variable [Facts]

def fn {F : FTy → Type} [FloatOps F] (main_arg0 : FVec F S1x256x1024 .bf16) (main_arg1 : FVec F S1024x1024 .bf16) (main_arg2 : FVec F S1024x1024 .bf16) (main_arg3 : FVec F S1024x1024 .bf16) (main_arg4 : FVec F S1024x1024 .bf16) : IVec S1x256x1024 1 × IVec S1024x1024 1 × IVec S1024x1024 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1024x1024 .bf16 := Host.absf main_arg2
  let main_cst_1 : FVec F S_ .bf16 := constant S_ .bf16 0x7F80#16
  let main_v7 : FVec F S1024x1024 .bf16 := broadcastInDim S1024x1024 ![] bcast_S_S1024x1024 main_cst_1
  let main_v8 : IVec S1024x1024 1 := cmpf .olt main_v6 main_v7
  (main_v2, main_v5, main_v8)
-- ==== Pre_scores_finite_ReferenceIdeal.lean ====
abbrev S1x2048x1024 : Shape := ⟨3, ![1, 2048, 1024]⟩
abbrev S1024x8192 : Shape := ⟨2, ![1024, 8192]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)

variable [Facts]

def fn {F : FTy → Type} [FloatOps F] (main_arg0 : FVec F S1x2048x1024 .bf16) (main_arg1 : FVec F S1024x8192 .bf16) (main_arg2 : FVec F S1024x8192 .bf16) (main_arg3 : FVec F S1024x8192 .bf16) (main_arg4 : FVec F S8192x1024 .bf16) : IVec S1x2048x1024 1 × IVec S1024x8192 1 × IVec S1024x8192 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_v6 : FVec F S1024x8192 .bf16 := Host.absf main_arg2
  let main_cst_1 : FVec F S_ .bf16 := constant S_ .bf16 0x7F80#16
  let main_v7 : FVec F S1024x8192 .bf16 := broadcastInDim S1024x8192 ![] bcast_S_S1024x8192 main_cst_1
  let main_v8 : IVec S1024x8192 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S8x256x1024 : Shape := ⟨3, ![8, 256, 1024]⟩
abbrev S2048x1024 : Shape := ⟨2, ![2048, 1024]⟩
abbrev S7x256x1024 : Shape := ⟨3, ![7, 256, 1024]⟩
abbrev S3 : Shape := ⟨1, ![3]⟩
abbrev S4 : Shape := ⟨1, ![4]⟩
abbrev S7 : Shape := ⟨1, ![7]⟩
abbrev S_ : Shape := ⟨0, ![]⟩
abbrev S1024x3072 : Shape := ⟨2, ![1024, 3072]⟩
abbrev S256x1024 : Shape := ⟨2, ![256, 1024]⟩
abbrev S1 : Shape := ⟨1, ![1]⟩
abbrev S256x3072 : Shape := ⟨2, ![256, 3072]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S8x256x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S7x256x1024, .bf16⟩
  | .local _ .vmem, ⟨11, _⟩ => ⟨S7x256x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : Index := Scalar.indexCast v2
  let c0_29 : Index := 0#32
  let c0_30 : Index := 0#32
  ![v43.toNat, 0, 0]
def k0_off2 (d0 : Dev nD) (c0_i32_31 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : BitVec 32 := Scalar.subi v2 c0_i32_31
  let c8_i32_32 : BitVec 32 := 8#32
  let c0_i32_33 : BitVec 32 := 0#32
  let v48 : BitVec 1 := Scalar.cmpi .eq c8_i32_32 c0_i32_33
  let c1_i32_34 : BitVec 32 := 1#32
  let v49 : BitVec 32 := Scalar.select v48 c1_i32_34 c8_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c0_i32_83 : BitVec 32 := 0#32
  let c0_i32_84 : BitVec 32 := 0#32
  ![v57.toNat, 0, 0]
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_81 : BitVec 32 := 1#32
  let v124 : BitVec 32 := Scalar.muli v24 c1_i32_81
  let v125 : BitVec 32 := Scalar.addi c0_i32_82 v124
  v125.toNat
def k0_off3 (d0 : Dev nD) (c0_i32_52 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v80 : BitVec 32 := Scalar.addi v2 c0_i32_52
  let c8_i32_53 : BitVec 32 := 8#32
  let c0_i32_54 : BitVec 32 := 0#32
  let v81 : BitVec 1 := Scalar.cmpi .eq c8_i32_53 c0_i32_54
  let c1_i32_55 : BitVec 32 := 1#32
  let v82 : BitVec 32 := Scalar.select v81 c1_i32_55 c8_i32_53
  let v83 : BitVec 32 := Scalar.remsi v80 v82
  let c0_i32_57 : BitVec 32 := 0#32
  let v85 : BitVec 1 := Scalar.cmpi .slt v83 c0_i32_57
  let c0_i32_58 : BitVec 32 := 0#32
  let v86 : BitVec 1 := Scalar.cmpi .slt v82 c0_i32_58
  let v87 : BitVec 1 := Scalar.xori v85 v86
  let c0_i32_56 : BitVec 32 := 0#32
  let v84 : BitVec 1 := Scalar.cmpi .ne v83 c0_i32_56
  let v88 : BitVec 1 := Scalar.andi v87 v84
  let v89 : BitVec 32 := Scalar.addi v83 v82
  let v90 : BitVec 32 := Scalar.select v88 v89 v83
  let c0_i32_91 : BitVec 32 := 0#32
  let c0_i32_92 : BitVec 32 := 0#32
  ![v90.toNat, 0, 0]
def k0_dev4 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_89 : BitVec 32 := 1#32
  let v134 : BitVec 32 := Scalar.muli v13 c1_i32_89
  let v135 : BitVec 32 := Scalar.addi c0_i32_90 v134
  v135.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v144 : BitVec 32 := Scalar.muli v2 c256_i32
  let v148 : Index := Scalar.indexCast v144
  let c0_96 : Index := 0#32
  ![v148.toNat, 0]
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_109 : BitVec 32 := 1#32
  let v170 : BitVec 32 := Scalar.muli v24 c1_i32_109
  let v171 : BitVec 32 := Scalar.addi c0_i32_110 v170
  v171.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_125 : BitVec 32 := 1#32
  let v188 : BitVec 32 := Scalar.muli v13 c1_i32_125
  let v189 : BitVec 32 := Scalar.addi c0_i32_126 v188
  v189.toNat
def k0_off5 (d0 : Dev nD) (c0_i32_131 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v198 : BitVec 32 := Scalar.subi v2 c0_i32_131
  let c1_i32_132 : BitVec 32 := 1#32
  let v199 : BitVec 32 := Scalar.subi v198 c1_i32_132
  let c8_i32_133 : BitVec 32 := 8#32
  let c0_i32_134 : BitVec 32 := 0#32
  let v200 : BitVec 1 := Scalar.cmpi .eq c8_i32_133 c0_i32_134
  let c1_i32_135 : BitVec 32 := 1#32
  let v201 : BitVec 32 := Scalar.select v200 c1_i32_135 c8_i32_133
  let v202 : BitVec 32 := Scalar.remsi v199 v201
  let c0_i32_137 : BitVec 32 := 0#32
  let v204 : BitVec 1 := Scalar.cmpi .slt v202 c0_i32_137
  let c0_i32_138 : BitVec 32 := 0#32
  let v205 : BitVec 1 := Scalar.cmpi .slt v201 c0_i32_138
  let v206 : BitVec 1 := Scalar.xori v204 v205
  let c0_i32_136 : BitVec 32 := 0#32
  let v203 : BitVec 1 := Scalar.cmpi .ne v202 c0_i32_136
  let v207 : BitVec 1 := Scalar.andi v206 v203
  let v208 : BitVec 32 := Scalar.addi v202 v201
  let v209 : BitVec 32 := Scalar.select v207 v208 v202
  let v210 : Index := Scalar.indexCast v209
  let c0_139 : Index := 0#32
  let c0_140 : Index := 0#32
  ![v210.toNat, 0, 0]
def k0_off6 (d0 : Dev nD) (c0_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v198 : BitVec 32 := Scalar.subi v2 c0_i32_131
  let c1_i32_132 : BitVec 32 := 1#32
  let v199 : BitVec 32 := Scalar.subi v198 c1_i32_132
  let c8_i32_133 : BitVec 32 := 8#32
  let c0_i32_134 : BitVec 32 := 0#32
  let v200 : BitVec 1 := Scalar.cmpi .eq c8_i32_133 c0_i32_134
  let c1_i32_135 : BitVec 32 := 1#32
  let v201 : BitVec 32 := Scalar.select v200 c1_i32_135 c8_i32_133
  let v202 : BitVec 32 := Scalar.remsi v199 v201
  let c0_i32_137 : BitVec 32 := 0#32
  let v204 : BitVec 1 := Scalar.cmpi .slt v202 c0_i32_137
  let c0_i32_138 : BitVec 32 := 0#32
  let v205 : BitVec 1 := Scalar.cmpi .slt v201 c0_i32_138
  let v206 : BitVec 1 := Scalar.xori v204 v205
  let c0_i32_136 : BitVec 32 := 0#32
  let v203 : BitVec 1 := Scalar.cmpi .ne v202 c0_i32_136
  let v207 : BitVec 1 := Scalar.andi v206 v203
  let v208 : BitVec 32 := Scalar.addi v202 v201
  let v209 : BitVec 32 := Scalar.select v207 v208 v202
  let c256_i32_141 : BitVec 32 := 256#32
  let v213 : BitVec 32 := Scalar.muli v209 c256_i32_141
  let v217 : Index := Scalar.indexCast v213
  let c0_143 : Index := 0#32
  ![v217.toNat, 0]
def k0_off7 (d0 : Dev nD) (c0_i32_146 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v231 : BitVec 32 := Scalar.addi v2 c0_i32_146
  let c1_i32_147 : BitVec 32 := 1#32
  let v232 : BitVec 32 := Scalar.addi v231 c1_i32_147
  let c8_i32_148 : BitVec 32 := 8#32
  let c0_i32_149 : BitVec 32 := 0#32
  let v233 : BitVec 1 := Scalar.cmpi .eq c8_i32_148 c0_i32_149
  let c1_i32_150 : BitVec 32 := 1#32
  let v234 : BitVec 32 := Scalar.select v233 c1_i32_150 c8_i32_148
  let v235 : BitVec 32 := Scalar.remsi v232 v234
  let c0_i32_152 : BitVec 32 := 0#32
  let v237 : BitVec 1 := Scalar.cmpi .slt v235 c0_i32_152
  let c0_i32_153 : BitVec 32 := 0#32
  let v238 : BitVec 1 := Scalar.cmpi .slt v234 c0_i32_153
  let v239 : BitVec 1 := Scalar.xori v237 v238
  let c0_i32_151 : BitVec 32 := 0#32
  let v236 : BitVec 1 := Scalar.cmpi .ne v235 c0_i32_151
  let v240 : BitVec 1 := Scalar.andi v239 v236
  let v241 : BitVec 32 := Scalar.addi v235 v234
  let v242 : BitVec 32 := Scalar.select v240 v241 v235
  let v243 : Index := Scalar.indexCast v242
  let c0_154 : Index := 0#32
  let c0_155 : Index := 0#32
  ![v243.toNat, 0, 0]
def k0_off8 (d0 : Dev nD) (c0_i32_146 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v231 : BitVec 32 := Scalar.addi v2 c0_i32_146
  let c1_i32_147 : BitVec 32 := 1#32
  let v232 : BitVec 32 := Scalar.addi v231 c1_i32_147
  let c8_i32_148 : BitVec 32 := 8#32
  let c0_i32_149 : BitVec 32 := 0#32
  let v233 : BitVec 1 := Scalar.cmpi .eq c8_i32_148 c0_i32_149
  let c1_i32_150 : BitVec 32 := 1#32
  let v234 : BitVec 32 := Scalar.select v233 c1_i32_150 c8_i32_148
  let v235 : BitVec 32 := Scalar.remsi v232 v234
  let c0_i32_152 : BitVec 32 := 0#32
  let v237 : BitVec 1 := Scalar.cmpi .slt v235 c0_i32_152
  let c0_i32_153 : BitVec 32 := 0#32
  let v238 : BitVec 1 := Scalar.cmpi .slt v234 c0_i32_153
  let v239 : BitVec 1 := Scalar.xori v237 v238
  let c0_i32_151 : BitVec 32 := 0#32
  let v236 : BitVec 1 := Scalar.cmpi .ne v235 c0_i32_151
  let v240 : BitVec 1 := Scalar.andi v239 v236
  let v241 : BitVec 32 := Scalar.addi v235 v234
  let v242 : BitVec 32 := Scalar.select v240 v241 v235
  let c256_i32_156 : BitVec 32 := 256#32
  let v246 : BitVec 32 := Scalar.muli v242 c256_i32_156
  let v250 : Index := Scalar.indexCast v246
  let c0_158 : Index := 0#32
  ![v250.toNat, 0]
def k0_dev7 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_171 : BitVec 32 := 1#32
  let v272 : BitVec 32 := Scalar.muli v24 c1_i32_171
  let v273 : BitVec 32 := Scalar.addi c0_i32_172 v272
  v273.toNat
def k0_dev8 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_187 : BitVec 32 := 1#32
  let v290 : BitVec 32 := Scalar.muli v13 c1_i32_187
  let v291 : BitVec 32 := Scalar.addi c0_i32_188 v290
  v291.toNat
def k0_dev9 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_241 : BitVec 32 := 1#32
  let v382 : BitVec 32 := Scalar.muli v13 c1_i32_241
  let v383 : BitVec 32 := Scalar.addi c0_i32_242 v382
  v383.toNat
def k0_off9 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v554 : Index := Scalar.indexCast v553
  let c0_358 : Index := 0#32
  ![v554.toNat, 0]
def k0_off10 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v567 : Index := Scalar.indexCast v553
  let c128 : Index := 128#32
  ![v567.toNat, 128]
def k0_off11 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v580 : Index := Scalar.indexCast v553
  let c256 : Index := 256#32
  ![v580.toNat, 256]
def k0_off12 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v593 : Index := Scalar.indexCast v553
  let c384 : Index := 384#32
  ![v593.toNat, 384]
def k0_off13 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v606 : Index := Scalar.indexCast v553
  let c512 : Index := 512#32
  ![v606.toNat, 512]
def k0_off14 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v619 : Index := Scalar.indexCast v553
  let c640 : Index := 640#32
  ![v619.toNat, 640]
def k0_off15 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v632 : Index := Scalar.indexCast v553
  let c768 : Index := 768#32
  ![v632.toNat, 768]
def k0_off16 (d0 : Dev nD) (c0_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v541 : BitVec 32 := Scalar.subi v2 c1_i32_349
  let v542 : BitVec 32 := Scalar.subi v541 c0_i32_350
  let c8_i32_351 : BitVec 32 := 8#32
  let c0_i32_352 : BitVec 32 := 0#32
  let v543 : BitVec 1 := Scalar.cmpi .eq c8_i32_351 c0_i32_352
  let c1_i32_353 : BitVec 32 := 1#32
  let v544 : BitVec 32 := Scalar.select v543 c1_i32_353 c8_i32_351
  let v545 : BitVec 32 := Scalar.remsi v542 v544
  let c0_i32_355 : BitVec 32 := 0#32
  let v547 : BitVec 1 := Scalar.cmpi .slt v545 c0_i32_355
  let c0_i32_356 : BitVec 32 := 0#32
  let v548 : BitVec 1 := Scalar.cmpi .slt v544 c0_i32_356
  let v549 : BitVec 1 := Scalar.xori v547 v548
  let c0_i32_354 : BitVec 32 := 0#32
  let v546 : BitVec 1 := Scalar.cmpi .ne v545 c0_i32_354
  let v550 : BitVec 1 := Scalar.andi v549 v546
  let v551 : BitVec 32 := Scalar.addi v545 v544
  let v552 : BitVec 32 := Scalar.select v550 v551 v545
  let c256_i32_357 : BitVec 32 := 256#32
  let v553 : BitVec 32 := Scalar.muli v552 c256_i32_357
  let v645 : Index := Scalar.indexCast v553
  let c896 : Index := 896#32
  ![v645.toNat, 896]
def k0_dev10 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_423 : BitVec 32 := 1#32
  let v664 : BitVec 32 := Scalar.muli v24 c1_i32_423
  let v665 : BitVec 32 := Scalar.addi c0_i32_424 v664
  v665.toNat
def k0_dev11 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_522 : BitVec 32 := 1#32
  let v809 : BitVec 32 := Scalar.muli v24 c1_i32_522
  let v810 : BitVec 32 := Scalar.addi c0_i32_523 v809
  v810.toNat
def k0_dev12 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_621 : BitVec 32 := 1#32
  let v954 : BitVec 32 := Scalar.muli v24 c1_i32_621
  let v955 : BitVec 32 := Scalar.addi c0_i32_622 v954
  v955.toNat
def k0_dev13 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_720 : BitVec 32 := 1#32
  let v1099 : BitVec 32 := Scalar.muli v24 c1_i32_720
  let v1100 : BitVec 32 := Scalar.addi c0_i32_721 v1099
  v1100.toNat
def k0_dev14 (d0 : Dev nD) : Nat :=
  let c0_i32_819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_818 : BitVec 32 := 1#32
  let v1244 : BitVec 32 := Scalar.muli v24 c1_i32_818
  let v1245 : BitVec 32 := Scalar.addi c0_i32_819 v1244
  v1245.toNat
def k0_dev15 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_916 : BitVec 32 := 1#32
  let v1389 : BitVec 32 := Scalar.muli v24 c1_i32_916
  let v1390 : BitVec 32 := Scalar.addi c0_i32_917 v1389
  v1390.toNat
def k0_dev16 (d0 : Dev nD) : Nat :=
  let c0_i32_1015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1014 : BitVec 32 := 1#32
  let v1534 : BitVec 32 := Scalar.muli v24 c1_i32_1014
  let v1535 : BitVec 32 := Scalar.addi c0_i32_1015 v1534
  v1535.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "s" => some ((11863283 / 134217728 : ℝ) : EReal)
  | _ => none
-- ==== ReferenceIdeal.lean ====
abbrev S1x2048x1024 : Shape := ⟨3, ![1, 2048, 1024]⟩
abbrev S1024x8192 : Shape := ⟨2, ![1024, 8192]⟩
abbrev S8192x1024 : Shape := ⟨2, ![8192, 1024]⟩
abbrev S1x2048x8192 : Shape := ⟨3, ![1, 2048, 8192]⟩
abbrev S1x2048x64x128 : Shape := ⟨4, ![1, 2048, 64, 128]⟩
abbrev S_ : Shape := ⟨0, ![]⟩
abbrev S1x64x2048x1 : Shape := ⟨4, ![1, 64, 2048, 1]⟩
abbrev S1x1024x64x128 : Shape := ⟨4, ![1, 1024, 64, 128]⟩
abbrev S1x64x2048x1024 : Shape := ⟨4, ![1, 64, 2048, 1024]⟩
abbrev S1x64x2048 : Shape := ⟨3, ![1, 64, 2048]⟩
abbrev S1x2048x64x1 : Shape := ⟨4, ![1, 2048, 64, 1]⟩
abbrev S1x64x128x2048 : Shape := ⟨4, ![1, 64, 128, 2048]⟩

abbrev nBuf : Space → Nat
  | .hbm => 79
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1024x8192, .bf16⟩
  | .hbm, ⟨3, _⟩ => ⟨S1024x8192, .bf16⟩
  | .hbm, ⟨4, _⟩ => ⟨S8192x1024, .bf16⟩
  | .hbm, ⟨5, _⟩ => ⟨S1x2048x1024, .f32⟩
  | .hbm, ⟨6, _⟩ => ⟨S1024x8192, .f32⟩
  | .hbm, ⟨7, _⟩ => ⟨S1024x8192, .f32⟩
  | .hbm, ⟨8, _⟩ => ⟨S1024x8192, .f32⟩
  | .hbm, ⟨9, _⟩ => ⟨S8192x1024, .f32⟩
  | .hbm, ⟨10, _⟩ => ⟨S1x2048x8192, .f32⟩
  | .hbm, ⟨11, _⟩ => ⟨S1x2048x64x128, .f32⟩
  | .hbm, ⟨12, _⟩ => ⟨S1x2048x8192, .f32⟩
  | .hbm, ⟨13, _⟩ => ⟨S1x2048x64x128, .f32⟩
  | .hbm, ⟨14, _⟩ => ⟨S1x2048x8192, .f32⟩
  | .hbm, ⟨15, _⟩ => ⟨S1x2048x64x128, .f32⟩
  | .hbm, ⟨16, _⟩ => ⟨S_, .f32⟩
  | .hbm, ⟨17, _⟩ => ⟨S1x2048x64x128, .f32⟩
  | .hbm, ⟨18, _⟩ => ⟨S_, .f32⟩
  | .hbm, ⟨19, _⟩ => ⟨S1x64x2048x1, .f32⟩
  | .hbm, ⟨20, _⟩ => ⟨S_, .f32⟩
  | .hbm, ⟨21, _⟩ => ⟨S1x64x2048x1, .f32⟩
  | .hbm, ⟨22, _⟩ => ⟨S1x1024x64x128, .f32⟩
  | .hbm, ⟨23, _⟩ => ⟨S1x1024x64x128, .f32⟩
  | .hbm, ⟨24, _⟩ => ⟨S1x64x2048x1024, .f32⟩
  | .hbm, ⟨25, _⟩ => ⟨S_, .f32⟩
  | .hbm, ⟨26, _⟩ => ⟨S1x64x2048x1024, .f32⟩
  | .hbm, ⟨27, _⟩ => ⟨S1x64x2048x1024, .f32⟩
  | .hbm, ⟨28, _⟩ => ⟨S_, .f32⟩
  | .hbm, ⟨29, _⟩ => ⟨S1x64x2048, .f32⟩
  | .hbm, ⟨30, _⟩ => ⟨S1x64x2048x1, .f32⟩
  | .hbm, ⟨31, _⟩ => ⟨S1x64x2048x1, .f32⟩
  | .hbm, ⟨32, _⟩ => ⟨S1x64x2048x1, .f32⟩
  | .hbm, ⟨33, _⟩ => ⟨S1x64x2048x1, .f32⟩
  | .hbm, ⟨34, _⟩ => ⟨S1x64x2048x1024, .f32⟩
  | .hbm, ⟨35, _⟩ => ⟨S1x64x2048x1024, .f32⟩
  | .hbm, ⟨36, _⟩ => ⟨S1x64x2048x1024, .f32⟩
  | .hbm, ⟨37, _⟩ => ⟨S1x64x2048x1, .f32⟩
  | .hbm, ⟨38, _⟩ => ⟨S_, .f32⟩
  | .hbm, ⟨39, _⟩ => ⟨S1x64x2048, .f32⟩
  | .hbm, ⟨40, _⟩ => ⟨S1x64x2048x1, .f32⟩
  | .hbm, ⟨41, _⟩ => ⟨S1x64x2048x1, .f32⟩
  | .hbm, ⟨42, _⟩ => ⟨S1x2048x64x1, .f32⟩
  | .hbm, ⟨43, _⟩ => ⟨S1x2048x64x128, .f32⟩
  | .hbm, ⟨44, _⟩ => ⟨S1x2048x64x128, .f32⟩
  | .hbm, ⟨45, _⟩ => ⟨S1x64x128x2048, .f32⟩
  | .hbm, ⟨46, _⟩ => ⟨S1x2048x64x128, .f32⟩
  | .hbm, ⟨47, _⟩ => ⟨S1x2048x64x128, .f32⟩
  | .hbm, ⟨48, _⟩ => ⟨S1x1024x64x128, .f32⟩
  | .hbm, ⟨49, _⟩ => ⟨S1x1024x64x128, .f32⟩
  | .hbm, ⟨50, _⟩ => ⟨S1x64x2048x1024, .f32⟩
  | .hbm, ⟨51, _⟩ => ⟨S_, .f32⟩
  | .hbm, ⟨52, _⟩ => ⟨S1x64x2048x1024, .f32⟩
  | .hbm, ⟨53, _⟩ => ⟨S1x64x2048x1024, .f32⟩
  | .hbm, ⟨54, _⟩ => ⟨S_, .f32⟩
  | .hbm, ⟨55, _⟩ => ⟨S1x64x2048, .f32⟩
  | .hbm, ⟨56, _⟩ => ⟨S1x64x2048x1, .f32⟩
  | .hbm, ⟨57, _⟩ => ⟨S1x64x2048x1, .f32⟩
  | .hbm, ⟨58, _⟩ => ⟨S1x64x2048x1, .f32⟩
  | .hbm, ⟨59, _⟩ => ⟨S1x64x2048x1, .f32⟩
  | .hbm, ⟨60, _⟩ => ⟨S1x64x2048x1024, .f32⟩
  | .hbm, ⟨61, _⟩ => ⟨S1x64x2048x1024, .f32⟩
  | .hbm, ⟨62, _⟩ => ⟨S1x64x2048x1024, .f32⟩
  | .hbm, ⟨63, _⟩ => ⟨S1x64x2048x1, .f32⟩
  | .hbm, ⟨64, _⟩ => ⟨S_, .f32⟩
  | .hbm, ⟨65, _⟩ => ⟨S1x64x2048, .f32⟩
  | .hbm, ⟨66, _⟩ => ⟨S1x64x2048x1, .f32⟩
  | .hbm, ⟨67, _⟩ => ⟨S1x64x2048x1, .f32⟩
  | .hbm, ⟨68, _⟩ => ⟨S1x2048x64x1, .f32⟩
  | .hbm, ⟨69, _⟩ => ⟨S1x2048x64x128, .f32⟩
  | .hbm, ⟨70, _⟩ => ⟨S1x2048x64x128, .f32⟩
  | .hbm, ⟨71, _⟩ => ⟨S1x64x128x2048, .f32⟩
  | .hbm, ⟨72, _⟩ => ⟨S1x2048x64x128, .f32⟩
  | .hbm, ⟨73, _⟩ => ⟨S1x2048x64x128, .f32⟩
  | .hbm, ⟨74, _⟩ => ⟨S1x2048x64x1, .f32⟩
  | .hbm, ⟨75, _⟩ => ⟨S1x2048x64x128, .f32⟩
  | .hbm, ⟨76, _⟩ => ⟨S1x2048x64x128, .f32⟩
  | .hbm, ⟨77, _⟩ => ⟨S1x2048x8192, .f32⟩
  | .hbm, ⟨78, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Proof.Prog.lean ====
/-
The kernel's body, rewritten as a short program: one definition per repeated step (a hop of the gather, a projection
of one block of rows, a step of the reduce-scatter) instead of the fifty windows it is printed in. The two are equal by
definitional unfolding (`body_eq`).
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.RingProof

open Cert.KernelIdeal Cert.KernelIdeal.Gen
open Idealize.ShloMosaic
open Idealize.ShloMosaic.TcCoe
open Idealize.SL.Sem

variable {F : FTy → Type} [FloatOps F] [Named F]

/-! ## The buffers and the semaphores -/

abbrev xM : Memref sig .tc .vmem S1x256x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0
abbrev oM : Memref sig .tc .vmem S1x256x1024 .f32 := Memref.whole cc0_stg5_0
abbrev xgM : Memref sig .tc .vmem S8x256x1024 .bf16 := Memref.whole cc0_scratch0
abbrev qM : Memref sig .tc .vmem S2048x1024 .bf16 := Memref.whole cc0_scratch1
abbrev kM : Memref sig .tc .vmem S2048x1024 .bf16 := Memref.whole cc0_scratch2
abbrev vM : Memref sig .tc .vmem S2048x1024 .bf16 := Memref.whole cc0_scratch3
abbrev sbM : Memref sig .tc .vmem S7x256x1024 .bf16 := Memref.whole cc0_scratch4
abbrev rbM : Memref sig .tc .vmem S7x256x1024 .bf16 := Memref.whole cc0_scratch5

abbrev barS : Sem sig := (SemArray.scalar (sig.barrier 0 rfl) : Sems sig S_).sem

/-- The kernel's own DMA semaphores, in their order: sends of the forward gather (3), its receives (3), sends of the
    backward gather (4), its receives (4), sends of the reduce-scatter (7), its receives (7). -/
def dsem (k : Fin 28) : DmaSem sig := ⟨6 + k.val, by show 6 + k.val < 34; omega⟩

def kFS (r : Fin 3) : Fin 28 := ⟨r.val, by omega⟩
def kFR (r : Fin 3) : Fin 28 := ⟨3 + r.val, by omega⟩
def kBS (r : Fin 4) : Fin 28 := ⟨6 + r.val, by omega⟩
def kBR (r : Fin 4) : Fin 28 := ⟨10 + r.val, by omega⟩
def kRS (r : Fin 7) : Fin 28 := ⟨14 + r.val, by omega⟩
def kRR (r : Fin 7) : Fin 28 := ⟨21 + r.val, by omega⟩

/-- One block of the gather buffer, one slot of a reduce-scatter buffer. -/
abbrev slotX (o : Fin 3 → ℕ) (h : ∀ a, o a + S1x256x1024.size a ≤ S8x256x1024.size a) : Memref sig .tc .vmem S256x1024 .bf16 :=
  (xgM.slice (Rect.unit (s := S8x256x1024) o S1x256x1024.size h) (fun _ => rfl)).squeeze S256x1024 squeezes_S1x256x1024_S256x1024
abbrev slotS (o : Fin 3 → ℕ) (h : ∀ a, o a + S1x256x1024.size a ≤ S7x256x1024.size a) : Memref sig .tc .vmem S256x1024 .bf16 :=
  (sbM.slice (Rect.unit (s := S7x256x1024) o S1x256x1024.size h) (fun _ => rfl)).squeeze S256x1024 squeezes_S1x256x1024_S256x1024
abbrev slotR (o : Fin 3 → ℕ) (h : ∀ a, o a + S1x256x1024.size a ≤ S7x256x1024.size a) : Memref sig .tc .vmem S256x1024 .bf16 :=
  (rbM.slice (Rect.unit (s := S7x256x1024) o S1x256x1024.size h) (fun _ => rfl)).squeeze S256x1024 squeezes_S1x256x1024_S256x1024

def off7 (r : Fin 7) : Fin 3 → ℕ := ![r.val, 0, 0]
theorem off7_inb (r : Fin 7) : ∀ a, off7 r a + S1x256x1024.size a ≤ S7x256x1024.size a := by revert r; decide

abbrev PG (α : Type) := Prog (TpuEff nD τ sig (Elt F) Λ₀ .tc) α

/-! ## The steps -/

/-- A hop of the gather: the block at offsets `o`, to the same block on device `n`. -/
def hop (o : Fin 3 → ℕ) (h : ∀ a, o a + S1x256x1024.size a ≤ S8x256x1024.size a)
    (hw : (Rect.unit (s := S8x256x1024) o S1x256x1024.size h).WholeWords (EltTy.packing .bf16)) (n : Dev nD) (ks kr : Fin 28) :
    Prog (TpuEff nD τ sig (Elt F) Λ₀ .tc) PUnit :=
  Prog.lift (.enqueueDma (slotX o h) (.remote (Dev.tc n) (slotX o h) (.dma (dsem ks))) (.dma (dsem kr))
    (((Memref.isWhole_whole cc0_scratch0).wordExact_slice rfl _ hw).reshape _ _) (((Memref.isWhole_whole cc0_scratch0).wordExact_slice rfl _ hw).reshape _ _) ⟨⟨rfl, Or.inl rfl⟩, trivial⟩)

def hopWait (o : Fin 3 → ℕ) (h : ∀ a, o a + S1x256x1024.size a ≤ S8x256x1024.size a)
    (hw : (Rect.unit (s := S8x256x1024) o S1x256x1024.size h).WholeWords (EltTy.packing .bf16)) (k : Fin 28) :
    Prog (TpuEff nD τ sig (Elt F) Λ₀ .tc) PUnit :=
  Prog.lift (.waitDma2 (dsem k) (slotX o h) (slotX o h) (((Memref.isWhole_whole cc0_scratch0).wordExact_slice rfl _ hw).reshape _ _) (((Memref.isWhole_whole cc0_scratch0).wordExact_slice rfl _ hw).reshape _ _))

/-- Replacing one block of rows of `q`, `k`, `v` by its projection. -/
def putRows (M : Memref sig .tc .vmem S2048x1024 .bf16) (hM : M.IsWhole) (o : Fin 2 → ℕ) (h : ∀ a, o a + S256x1024.size a ≤ S2048x1024.size a)
    (hp : (Rect.unit (s := S2048x1024) o S256x1024.size h).PackedRows (EltTy.packing .bf16)) (val : Vec F S256x1024 .bf16) :
    Prog (TpuEff nD τ sig (Elt F) Λ₀ .tc) PUnit := do
  let _ : Vec F S256x1024 .bf16 ← Prog.lift (.load M (Rect.unit (s := S2048x1024) o S256x1024.size h).toLoadRect (View.loadsAt_vmem h_S256x1024))
  Prog.lift (.store M (Rect.unit (s := S2048x1024) o S256x1024.size h) val Finset.univ (View.stores_vmem h_S256x1024 (hM.storeExact_slice rfl _ hp) (fun _ => rfl)) (.inl rfl))

def project (o : Fin 2 → ℕ) (h : ∀ a, o a + S256x1024.size a ≤ S2048x1024.size a)
    (hp : (Rect.unit (s := S2048x1024) o S256x1024.size h).PackedRows (EltTy.packing .bf16)) (w : FVec F S1024x3072 .bf16) (x : Vec F S1x256x1024 .bf16) :
    Prog (TpuEff nD τ sig (Elt F) Λ₀ .tc) PUnit := do
  putRows qM (Memref.isWhole_whole _) o h hp (k0_pay10 w x)
  putRows kM (Memref.isWhole_whole _) o h hp (k0_pay11 w x)
  putRows vM (Memref.isWhole_whole _) o h hp (k0_pay12 w x)

def getBlock (o : Fin 3 → ℕ) (h : ∀ a, o a + S1x256x1024.size a ≤ S8x256x1024.size a) : Prog (TpuEff nD τ sig (Elt F) Λ₀ .tc) (Vec F S1x256x1024 .bf16) :=
  Prog.lift (.load xgM (Rect.unit (s := S8x256x1024) o S1x256x1024.size h).toLoadRect (View.loadsAt_vmem h_S1x256x1024))

/-- One head's attention on one block of rows. -/
abbrev headOut (a : Vec F S256x128 .bf16) (b v : Vec F S2048x128 .bf16) : FVec F S256x128 .bf16 := k0_pay40 a b v

def head (o : Fin 2 → ℕ) (h : ∀ a, o a + S256x128.size a ≤ S2048x1024.size a) (o' : Fin 2 → ℕ) (h' : ∀ a, o' a + S2048x128.size a ≤ S2048x1024.size a) :
    Prog (TpuEff nD τ sig (Elt F) Λ₀ .tc) (FVec F S256x128 .bf16) := do
  let a : Vec F S256x128 .bf16 ← Prog.lift (.load qM (Rect.unit (s := S2048x1024) o S256x128.size h).toLoadRect (View.loadsAt_vmem h_S256x128))
  let b : Vec F S2048x128 .bf16 ← Prog.lift (.load kM (Rect.unit (s := S2048x1024) o' S2048x128.size h').toLoadRect (View.loadsAt_vmem h_S2048x128))
  let v : Vec F S2048x128 .bf16 ← Prog.lift (.load vM (Rect.unit (s := S2048x1024) o' S2048x128.size h').toLoadRect (View.loadsAt_vmem h_S2048x128))
  pure (headOut a b v)

/-- The eight heads side by side, times `wo`. -/
def combine (wo : FVec F S1024x1024 .bf16) (h0 h1 h2 h3 h4 h5 h6 h7 : FVec F S256x128 .bf16) : FVec F S256x1024 .f32 :=
  matmul dot_S256x1024_S1024x1024_S256x1024_1_0_0_1_n_n none
    (concatenate S256x1024 1 [⟨S256x128, h0⟩, ⟨S256x128, h1⟩, ⟨S256x128, h2⟩, ⟨S256x128, h3⟩, ⟨S256x128, h4⟩, ⟨S256x128, h5⟩, ⟨S256x128, h6⟩, ⟨S256x128, h7⟩]
      concatenates_S256x128_S256x128_S256x128_S256x128_S256x128_S256x128_S256x128_S256x128_S256x1024_d1 : FVec F S256x1024 .bf16)
    wo (constant S256x1024 .f32 0x00000000#32)

/-- The partial result of one block of rows. -/
def psum (c : Dev nD) (s : Fin 8) (wo : FVec F S1024x1024 .bf16) : Prog (TpuEff nD τ sig (Elt F) Λ₀ .tc) (FVec F S256x1024 .f32) := do
  let h0 ← head (k0_off9 c (BitVec.ofNat 32 s.val)) (k0_off9_inb c s) ![0, 0] inb_S2048x1024_S2048x128_0_0
  let h1 ← head (k0_off10 c (BitVec.ofNat 32 s.val)) (k0_off10_inb c s) ![0, 128] inb_S2048x1024_S2048x128_0_128
  let h2 ← head (k0_off11 c (BitVec.ofNat 32 s.val)) (k0_off11_inb c s) ![0, 256] inb_S2048x1024_S2048x128_0_256
  let h3 ← head (k0_off12 c (BitVec.ofNat 32 s.val)) (k0_off12_inb c s) ![0, 384] inb_S2048x1024_S2048x128_0_384
  let h4 ← head (k0_off13 c (BitVec.ofNat 32 s.val)) (k0_off13_inb c s) ![0, 512] inb_S2048x1024_S2048x128_0_512
  let h5 ← head (k0_off14 c (BitVec.ofNat 32 s.val)) (k0_off14_inb c s) ![0, 640] inb_S2048x1024_S2048x128_0_640
  let h6 ← head (k0_off15 c (BitVec.ofNat 32 s.val)) (k0_off15_inb c s) ![0, 768] inb_S2048x1024_S2048x128_0_768
  let h7 ← head (k0_off16 c (BitVec.ofNat 32 s.val)) (k0_off16_inb c s) ![0, 896] inb_S2048x1024_S2048x128_0_896
  pure (combine wo h0 h1 h2 h3 h4 h5 h6 h7)

/-- The words a step of the reduce-scatter sends on. -/
def sendVal (p : FVec F S256x1024 .f32) : FVec F S1x256x1024 .bf16 :=
  shapeCast S1x256x1024 (truncf .bf16 p bitsLt_bf16_f32 : FVec F S256x1024 .bf16) shapeCasts_S256x1024_S1x256x1024
/-- The running sum after a receive. -/
def accum (p : FVec F S256x1024 .f32) (r : Vec F S1x256x1024 .bf16) : FVec F S256x1024 .f32 :=
  addf p (extf .f32 (shapeCast S256x1024 r shapeCasts_S1x256x1024_S256x1024 : FVec F S256x1024 .bf16) bitsLt_bf16_f32)

theorem off7_words (r : Fin 7) : (Rect.unit (s := S7x256x1024) (off7 r) S1x256x1024.size (off7_inb r)).WholeWords (EltTy.packing .bf16) := by
  revert r; decide
theorem off7_packed (r : Fin 7) : (Rect.unit (s := S7x256x1024) (off7 r) S1x256x1024.size (off7_inb r)).PackedRows (EltTy.packing .bf16) := by
  revert r; decide

def rsSend (r : Fin 7) (n : Dev nD) (val : FVec F S1x256x1024 .bf16) : Prog (TpuEff nD τ sig (Elt F) Λ₀ .tc) PUnit := do
  let _ : Vec F S1x256x1024 .bf16 ← Prog.lift (.load sbM (Rect.unit (s := S7x256x1024) (off7 r) S1x256x1024.size (off7_inb r)).toLoadRect (View.loadsAt_vmem h_S1x256x1024))
  Prog.lift (.store sbM (Rect.unit (s := S7x256x1024) (off7 r) S1x256x1024.size (off7_inb r)) val Finset.univ (View.stores_vmem h_S1x256x1024 ((Memref.isWhole_whole cc0_scratch4).storeExact_slice rfl _ (off7_packed r)) (fun _ => rfl)) (.inl rfl))
  Prog.lift (.enqueueDma (slotS (off7 r) (off7_inb r)) (.remote (Dev.tc n) (slotR (off7 r) (off7_inb r)) (.dma (dsem (kRS r)))) (.dma (dsem (kRR r)))
    (((Memref.isWhole_whole cc0_scratch4).wordExact_slice rfl _ (off7_words r)).reshape _ _) (((Memref.isWhole_whole cc0_scratch5).wordExact_slice rfl _ (off7_words r)).reshape _ _) ⟨⟨rfl, Or.inl rfl⟩, trivial⟩)

def rsRecv (r : Fin 7) : Prog (TpuEff nD τ sig (Elt F) Λ₀ .tc) (Vec F S1x256x1024 .bf16) := do
  Prog.lift (.waitDma2 (dsem (kRR r)) (slotS (off7 r) (off7_inb r)) (slotR (off7 r) (off7_inb r))
    (((Memref.isWhole_whole cc0_scratch4).wordExact_slice rfl _ (off7_words r)).reshape _ _) (((Memref.isWhole_whole cc0_scratch5).wordExact_slice rfl _ (off7_words r)).reshape _ _))
  Prog.lift (.load rbM (Rect.unit (s := S7x256x1024) (off7 r) S1x256x1024.size (off7_inb r)).toLoadRect (View.loadsAt_vmem h_S1x256x1024))

def rsWait (r : Fin 7) : Prog (TpuEff nD τ sig (Elt F) Λ₀ .tc) PUnit :=
  Prog.lift (.waitDma2 (dsem (kRS r)) (slotR (off7 r) (off7_inb r)) (slotS (off7 r) (off7_inb r))
    (((Memref.isWhole_whole cc0_scratch5).wordExact_slice rfl _ (off7_words r)).reshape _ _) (((Memref.isWhole_whole cc0_scratch4).wordExact_slice rfl _ (off7_words r)).reshape _ _))

/-! ## The body -/

def prologue (c n1 n2 : Dev nD) : Prog (TpuEff nD τ sig (Elt F) Λ₀ .tc) PUnit := do
  semSignalWord n1 barS 1#32
  semSignalWord n2 barS 1#32
  semWaitWord barS 2#32

def loadW (M : Memref sig .tc .vmem S1024x1024 .bf16) : Prog (TpuEff nD τ sig (Elt F) Λ₀ .tc) (Vec F S1024x1024 .bf16) :=
  Prog.lift (.load M (Rect.unit (s := S1024x1024) ![0, 0] S1024x1024.size inb_S1024x1024_S1024x1024_0_0).toLoadRect (View.loadsAt_vmem h_S1024x1024))

def loadX : Prog (TpuEff nD τ sig (Elt F) Λ₀ .tc) (Vec F S1x256x1024 .bf16) :=
  Prog.lift (.load xM (Rect.unit (s := S1x256x1024) ![0, 0, 0] S1x256x1024.size inb_S1x256x1024_S1x256x1024_0_0_0).toLoadRect (View.loadsAt_vmem h_S1x256x1024))

def putX (c : Dev nD) (x : Vec F S1x256x1024 .bf16) : Prog (TpuEff nD τ sig (Elt F) Λ₀ .tc) PUnit := do
  let _ ← getBlock (k0_off1 c) (k0_off1_inb c)
  Prog.lift (.store xgM (Rect.unit (s := S8x256x1024) (k0_off1 c) S1x256x1024.size (k0_off1_inb c)) (k0_pay4 x) Finset.univ (View.stores_vmem h_S1x256x1024 ((Memref.isWhole_whole cc0_scratch0).storeExact_slice rfl _ (k0_off1_packedbf16 c)) (fun _ => rfl)) (.inl rfl))

def putOut (p : FVec F S256x1024 .f32) : Prog (TpuEff nD τ sig (Elt F) Λ₀ .tc) PUnit := do
  let _ : Vec F S1x256x1024 .f32 ← Prog.lift (.load oM (Rect.unit (s := S1x256x1024) ![0, 0, 0] S1x256x1024.size inb_S1x256x1024_S1x256x1024_0_0_0).toLoadRect (View.loadsAt_vmem h_S1x256x1024))
  Prog.lift (.store oM (Rect.unit (s := S1x256x1024) ![0, 0, 0] S1x256x1024.size inb_S1x256x1024_S1x256x1024_0_0_0) (k0_pay128 p) Finset.univ (View.stores_vmem_bits_univ h_S1x256x1024 rfl) (.inl rfl))

def hopF (c : Dev nD) (r : Fin 3) (n : Dev nD) : Prog (TpuEff nD τ sig (Elt F) Λ₀ .tc) PUnit :=
  hop (k0_off2 c (BitVec.ofNat 32 r.val)) (k0_off2_inb c r) (k0_off2_wordsbf16 c r) n (kFS r) (kFR r)
def hopB (c : Dev nD) (r : Fin 4) (n : Dev nD) : Prog (TpuEff nD τ sig (Elt F) Λ₀ .tc) PUnit :=
  hop (k0_off3 c (BitVec.ofNat 32 r.val)) (k0_off3_inb c r) (k0_off3_wordsbf16 c r) n (kBS r) (kBR r)
def recvF (c : Dev nD) (r : Fin 3) : Prog (TpuEff nD τ sig (Elt F) Λ₀ .tc) PUnit :=
  hopWait (k0_off2 c (BitVec.ofNat 32 r.val)) (k0_off2_inb c r) (k0_off2_wordsbf16 c r) (kFR r)
def recvB (c : Dev nD) (r : Fin 4) : Prog (TpuEff nD τ sig (Elt F) Λ₀ .tc) PUnit :=
  hopWait (k0_off3 c (BitVec.ofNat 32 r.val)) (k0_off3_inb c r) (k0_off3_wordsbf16 c r) (kBR r)
def sentF (c : Dev nD) (r : Fin 3) : Prog (TpuEff nD τ sig (Elt F) Λ₀ .tc) PUnit :=
  hopWait (k0_off2 c (BitVec.ofNat 32 r.val)) (k0_off2_inb c r) (k0_off2_wordsbf16 c r) (kFS r)
def sentB (c : Dev nD) (r : Fin 4) : Prog (TpuEff nD τ sig (Elt F) Λ₀ .tc) PUnit :=
  hopWait (k0_off3 c (BitVec.ofNat 32 r.val)) (k0_off3_inb c r) (k0_off3_wordsbf16 c r) (kBS r)

def projF (c : Dev nD) (r : Fin 3) (w : FVec F S1024x3072 .bf16) : Prog (TpuEff nD τ sig (Elt F) Λ₀ .tc) PUnit := do
  let x ← getBlock (k0_off5 c (BitVec.ofNat 32 r.val)) (k0_off5_inb c r)
  project (k0_off6 c (BitVec.ofNat 32 r.val)) (k0_off6_inb c r) (k0_off6_packedbf16 c r) w x
def projB (c : Dev nD) (r : Fin 4) (w : FVec F S1024x3072 .bf16) : Prog (TpuEff nD τ sig (Elt F) Λ₀ .tc) PUnit := do
  let x ← getBlock (k0_off7 c (BitVec.ofNat 32 r.val)) (k0_off7_inb c r)
  project (k0_off8 c (BitVec.ofNat 32 r.val)) (k0_off8_inb c r) (k0_off8_packedbf16 c r) w x

def gather (c : Dev nD) (w : FVec F S1024x3072 .bf16) (x : Vec F S1x256x1024 .bf16) : Prog (TpuEff nD τ sig (Elt F) Λ₀ .tc) PUnit := do
  hopF c 0 ⟨k0_dev3 c, k0_dev3_lt c⟩
  hopB c 0 ⟨k0_dev4 c, k0_dev4_lt c⟩
  project (k0_off4 c) (k0_off4_inb c) (k0_off4_packedbf16 c) w x
  recvF c 0
  hopF c 1 ⟨k0_dev5 c, k0_dev5_lt c⟩
  recvB c 0
  hopB c 1 ⟨k0_dev6 c, k0_dev6_lt c⟩
  projF c 0 w
  projB c 0 w
  recvF c 1
  hopF c 2 ⟨k0_dev7 c, k0_dev7_lt c⟩
  recvB c 1
  hopB c 2 ⟨k0_dev8 c, k0_dev8_lt c⟩
  projF c 1 w
  projB c 1 w
  recvF c 2
  recvB c 2
  hopB c 3 ⟨k0_dev9 c, k0_dev9_lt c⟩
  projF c 2 w
  projB c 2 w
  recvB c 3
  projB c 3 w
  sentF c 0
  sentF c 1
  sentF c 2
  sentB c 0
  sentB c 1
  sentB c 2
  sentB c 3

/-- A middle step of the reduce-scatter. -/
def rsMid (c : Dev nD) (s : Fin 6) (n : Dev nD) (wo : FVec F S1024x1024 .bf16) : Prog (TpuEff nD τ sig (Elt F) Λ₀ .tc) PUnit := do
  let p ← psum c ⟨s.val + 1, by omega⟩ wo
  let r ← rsRecv ⟨s.val, by omega⟩
  rsSend ⟨s.val + 1, by omega⟩ n (sendVal (accum p r))

def rsFirst (c n : Dev nD) (wo : FVec F S1024x1024 .bf16) : Prog (TpuEff nD τ sig (Elt F) Λ₀ .tc) PUnit := do
  let p ← psum c 0 wo
  rsSend 0 n (sendVal p)

def rsLast (c : Dev nD) (wo : FVec F S1024x1024 .bf16) : Prog (TpuEff nD τ sig (Elt F) Λ₀ .tc) PUnit := do
  let p ← psum c 7 wo
  let r ← rsRecv 6
  putOut (accum p r)

def scatter (c : Dev nD) (wo : FVec F S1024x1024 .bf16) : Prog (TpuEff nD τ sig (Elt F) Λ₀ .tc) PUnit := do
  rsFirst c ⟨k0_dev10 c, k0_dev10_lt c⟩ wo
  rsMid c 0 ⟨k0_dev11 c, k0_dev11_lt c⟩ wo
  rsMid c 1 ⟨k0_dev12 c, k0_dev12_lt c⟩ wo
  rsMid c 2 ⟨k0_dev13 c, k0_dev13_lt c⟩ wo
  rsMid c 3 ⟨k0_dev14 c, k0_dev14_lt c⟩ wo
  rsMid c 4 ⟨k0_dev15 c, k0_dev15_lt c⟩ wo
  rsMid c 5 ⟨k0_dev16 c, k0_dev16_lt c⟩ wo
  rsLast c wo
  rsWait 0
  rsWait 1
  rsWait 2
  rsWait 3
  rsWait 4
  rsWait 5
  rsWait 6

def body : Prog (TpuEff nD τ sig (Elt F) Λ₀ .tc) PUnit := do
  let c : Dev nD ← Prog.lift .deviceId
  prologue c ⟨k0_dev1 c, k0_dev1_lt c⟩ ⟨k0_dev2 c, k0_dev2_lt c⟩
  let wq ← loadW wqM
  let wk ← loadW wkM
  let wv ← loadW wvM
  let wo ← loadW woM
  let x ← loadX
  putX c x
  gather c (k0_pay1 wq wk wv) x
  scatter c (k0_pay2 wo)

set_option maxRecDepth 65536 in
set_option maxHeartbeats 4000000 in
/-- The printed body is this program. -/
theorem body_eq : cc0_body (F := F) xM (Memref.isWhole_whole _) wqM (Memref.isWhole_whole _) woM (Memref.isWhole_whole _) wkM (Memref.isWhole_whole _)
    wvM (Memref.isWhole_whole _) oM (Memref.isWhole_whole _) xgM (Memref.isWhole_whole _) qM (Memref.isWhole_whole _) kM (Memref.isWhole_whole _) vM (Memref.isWhole_whole _)
    sbM (Memref.isWhole_whole _) rbM (Memref.isWhole_whole _) cc0_scratch6 cc0_scratch7 cc0_scratch8 cc0_scratch9 cc0_scratch10 cc0_scratch11 = body := rfl

end Cert.RingProof
-- ==== Proof.Common.lean ====
/-
The protocol of the kernel: the ring, the buffers' contents at each point, the schedule of the semaphore cells (who
pays which, and with what), what each device owes at launch and the levels that order the waits.

A device signals both neighbours' barrier cell, handing each the blocks that neighbour will write; it waits for both;
its block of `x` then goes round both ways (three hops to the right, four to the left); the partial results go round
to the right, seven hops, each adding a device's own partial result. Every transfer has two cells of its own, one
round, one duty each.
-/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

set_option backward.proofsInPublic true in
/-- The device `k` places before `c`, and `k` places after. -/
def fsl (c : Dev nD) (k : ℕ) : Fin 8 := ⟨(c.val + (8 - k)) % 8, Nat.mod_lt _ (by decide)⟩
set_option backward.proofsInPublic true in
def bsl (c : Dev nD) (k : ℕ) : Fin 8 := ⟨(c.val + k) % 8, Nat.mod_lt _ (by decide)⟩

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = prv c := by revert c; decide
theorem dev9_eq (c : Dev nD) : (⟨k0_dev9 c, k0_dev9_lt c⟩ : Dev nD) = prv c := by revert c; decide
theorem dev10_eq (c : Dev nD) : (⟨k0_dev10 c, k0_dev10_lt c⟩ : Dev nD) = nxt c := by revert c; decide
theorem dev11_eq (c : Dev nD) : (⟨k0_dev11 c, k0_dev11_lt c⟩ : Dev nD) = nxt c := by revert c; decide
theorem dev12_eq (c : Dev nD) : (⟨k0_dev12 c, k0_dev12_lt c⟩ : Dev nD) = nxt c := by revert c; decide
theorem dev13_eq (c : Dev nD) : (⟨k0_dev13 c, k0_dev13_lt c⟩ : Dev nD) = nxt c := by revert c; decide
theorem dev14_eq (c : Dev nD) : (⟨k0_dev14 c, k0_dev14_lt c⟩ : Dev nD) = nxt c := by revert c; decide
theorem dev15_eq (c : Dev nD) : (⟨k0_dev15 c, k0_dev15_lt c⟩ : Dev nD) = nxt c := by revert c; decide
theorem dev16_eq (c : Dev nD) : (⟨k0_dev16 c, k0_dev16_lt c⟩ : Dev nD) = nxt c := by revert c; decide

/-! ## Offsets -/

def offX (j : Fin 8) : Fin 3 → ℕ := ![j.val, 0, 0]
theorem offX_inb (j : Fin 8) : ∀ a, offX j a + S1x256x1024.size a ≤ S8x256x1024.size a := by revert j; decide
def offR (j : Fin 8) : Fin 2 → ℕ := ![256 * j.val, 0]
theorem offR_inb (j : Fin 8) : ∀ a, offR j a + S256x1024.size a ≤ S2048x1024.size a := by revert j; decide

theorem off1_eq (c : Dev nD) : k0_off1 c = offX c := by revert c; decide
theorem off2_eq (c : Dev nD) (r : Fin 3) : k0_off2 c (BitVec.ofNat 32 r.val) = offX (fsl c r.val) := by revert c r; decide
theorem off3_eq (c : Dev nD) (r : Fin 4) : k0_off3 c (BitVec.ofNat 32 r.val) = offX (bsl c r.val) := by revert c r; decide
theorem off4_eq (c : Dev nD) : k0_off4 c = offR c := by revert c; decide
theorem off5_eq (c : Dev nD) (r : Fin 3) : k0_off5 c (BitVec.ofNat 32 r.val) = offX (fsl c (r.val + 1)) := by revert c r; decide
theorem off6_eq (c : Dev nD) (r : Fin 3) : k0_off6 c (BitVec.ofNat 32 r.val) = offR (fsl c (r.val + 1)) := by revert c r; decide
theorem off7_eq (c : Dev nD) (r : Fin 4) : k0_off7 c (BitVec.ofNat 32 r.val) = offX (bsl c (r.val + 1)) := by revert c r; decide
theorem off8_eq (c : Dev nD) (r : Fin 4) : k0_off8 c (BitVec.ofNat 32 r.val) = offR (bsl c (r.val + 1)) := by revert c r; decide

/-! ## The cells -/

abbrev barCell (c : Dev nD) : GSem nD τ sig := ((c : Thread nD τ), .reg barS)
abbrev dcell (c : Dev nD) (k : Fin 28) : GSem nD τ sig := ((c : Thread nD τ), .dma (dsem k))

abbrev osem (k : Fin 28) : SemLoc sig := .dma (dsem k)
abbrev csem : Option (Fin 28) → SemLoc sig := fun | none => .reg barS | some k => .dma (dsem k)
abbrev kcell (ck : Dev nD × Option (Fin 28)) : GSem nD τ sig := ((ck.1 : Thread nD τ), csem ck.2)

abbrev N : ℕ := (slotX (offX 0) (offX_inb 0)).view.dmaCredit
theorem N_pos : 0 < N := View.dmaCredit_pos _ (by decide)

theorem dsem_inj : Function.Injective dsem := fun a b h => by
  have := congrArg Fin.val h; simp only [dsem] at this; exact Fin.ext (by omega)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged inputs. -/
def xS (c : Dev nD) : (cc0_stg0_0 : Ref sig .tc).ty.Contents (Elt F) :=
  (win0_0.blk (0 : Fin 1)).view.read (Elt F) (m ((c : Thread nD τ).loc main_arg0))
def wqS (c : Dev nD) : (cc0_stg1_0 : Ref sig .tc).ty.Contents (Elt F) :=
  (win0_1.blk (0 : Fin 1)).view.read (Elt F) (m ((c : Thread nD τ).loc main_arg1))
def woS (c : Dev nD) : (cc0_stg2_0 : Ref sig .tc).ty.Contents (Elt F) :=
  (win0_2.blk (0 : Fin 1)).view.read (Elt F) (m ((c : Thread nD τ).loc main_arg4))
def wkS (c : Dev nD) : (cc0_stg3_0 : Ref sig .tc).ty.Contents (Elt F) :=
  (win0_3.blk (0 : Fin 1)).view.read (Elt F) (m ((c : Thread nD τ).loc main_arg2))
def wvS (c : Dev nD) : (cc0_stg4_0 : Ref sig .tc).ty.Contents (Elt F) :=
  (win0_4.blk (0 : Fin 1)).view.read (Elt F) (m ((c : Thread nD τ).loc main_arg3))

def W3 (c : Dev nD) : FVec F S1024x3072 .bf16 := k0_pay1 (wqS m c) (wkS m c) (wvS m c)
def WO (c : Dev nD) : FVec F S1024x1024 .bf16 := k0_pay2 (woS m c)

/-- A position inside its block. -/
def tailX (i : S8x256x1024.Idx) : S1x256x1024.Idx := fun
  | ⟨0, _⟩ => (0 : Fin 1) | ⟨1, _⟩ => (i 1 : Fin 256) | ⟨2, _⟩ => (i 2 : Fin 1024)
def tailS (i : S7x256x1024.Idx) : S1x256x1024.Idx := fun
  | ⟨0, _⟩ => (0 : Fin 1) | ⟨1, _⟩ => (i 1 : Fin 256) | ⟨2, _⟩ => (i 2 : Fin 1024)
def tailR (i : S2048x1024.Idx) : S256x1024.Idx := fun
  | ⟨0, _⟩ => (⟨(i 0).val % 256, Nat.mod_lt _ (by decide)⟩ : Fin 256) | ⟨1, _⟩ => (i 1 : Fin 1024)
def headX (i : S8x256x1024.Idx) : Dev nD := ⟨(i 0).val, (i 0).isLt⟩
def headR (i : S2048x1024.Idx) : Dev nD := ⟨(i 0).val / 256, by have : (i 0).val < 2048 := (i 0).isLt; show (i 0).val / 256 < 8; omega⟩

/-- The gather buffer, filled: every device's block. -/
def GX : (cc0_scratch0 : Ref sig .tc).ty.Contents (Elt F) := fun i => xS m (headX i) (tailX i)
/-- `q`, `k`, `v` of device `c`, all rows. -/
def QG (c : Dev nD) : (cc0_scratch1 : Ref sig .tc).ty.Contents (Elt F) := fun i => k0_pay10 (W3 m c) (xS m (headR i)) (tailR i)
def KG (c : Dev nD) : (cc0_scratch2 : Ref sig .tc).ty.Contents (Elt F) := fun i => k0_pay11 (W3 m c) (xS m (headR i)) (tailR i)
def VG (c : Dev nD) : (cc0_scratch3 : Ref sig .tc).ty.Contents (Elt F) := fun i => k0_pay12 (W3 m c) (xS m (headR i)) (tailR i)

/-- One head's attention of device `c`, rows from the offset `o`. -/
def headG (c : Dev nD) (o : Fin 2 → ℕ) (h : ∀ a, o a + S256x128.size a ≤ S2048x1024.size a) (o' : Fin 2 → ℕ) (h' : ∀ a, o' a + S2048x128.size a ≤ S2048x1024.size a) :
    FVec F S256x128 .bf16 :=
  headOut (qM.view.readAt (Elt F) (Rect.unit (s := S2048x1024) o S256x128.size h).toLoadRect (QG m c))
    (kM.view.readAt (Elt F) (Rect.unit (s := S2048x1024) o' S2048x128.size h').toLoadRect (KG m c))
    (vM.view.readAt (Elt F) (Rect.unit (s := S2048x1024) o' S2048x128.size h').toLoadRect (VG m c))

/-- Device `c`'s partial result for the block of rows it handles at step `s`. -/
def PS (c : Dev nD) (s : Fin 8) : FVec F S256x1024 .f32 :=
  combine (WO m c)
    (headG m c (k0_off9 c (BitVec.ofNat 32 s.val)) (k0_off9_inb c s) ![0, 0] inb_S2048x1024_S2048x128_0_0)
    (headG m c (k0_off10 c (BitVec.ofNat 32 s.val)) (k0_off10_inb c s) ![0, 128] inb_S2048x1024_S2048x128_0_128)
    (headG m c (k0_off11 c (BitVec.ofNat 32 s.val)) (k0_off11_inb c s) ![0, 256] inb_S2048x1024_S2048x128_0_256)
    (headG m c (k0_off12 c (BitVec.ofNat 32 s.val)) (k0_off12_inb c s) ![0, 384] inb_S2048x1024_S2048x128_0_384)
    (headG m c (k0_off13 c (BitVec.ofNat 32 s.val)) (k0_off13_inb c s) ![0, 512] inb_S2048x1024_S2048x128_0_512)
    (headG m c (k0_off14 c (BitVec.ofNat 32 s.val)) (k0_off14_inb c s) ![0, 640] inb_S2048x1024_S2048x128_0_640)
    (headG m c (k0_off15 c (BitVec.ofNat 32 s.val)) (k0_off15_inb c s) ![0, 768] inb_S2048x1024_S2048x128_0_768)
    (headG m c (k0_off16 c (BitVec.ofNat 32 s.val)) (k0_off16_inb c s) ![0, 896] inb_S2048x1024_S2048x128_0_896)

/-- The running sum device `c` holds at step `s`. -/
def RS : ℕ → Dev nD → FVec F S256x1024 .f32
  | 0, c => PS m c 0
  | s + 1, c => accum (PS m c (Fin.ofNat 8 (s + 1))) (sendVal (RS s (prv c)))

theorem RS_succ (c : Dev nD) (s : ℕ) (h : s + 1 < 8) : RS m (s + 1) c = accum (PS m c ⟨s + 1, h⟩) (sendVal (RS m s (prv c))) := by
  rw [RS, show Fin.ofNat 8 (s + 1) = ⟨s + 1, h⟩ from Fin.ext (Nat.mod_eq_of_lt h)]

/-- The send buffer of the reduce-scatter, filled; the receive buffer is the device before's. -/
def SB (c : Dev nD) : (cc0_scratch4 : Ref sig .tc).ty.Contents (Elt F) := fun i => sendVal (RS m (i 0).val c) (tailS i)
def RB (c : Dev nD) : (cc0_scratch5 : Ref sig .tc).ty.Contents (Elt F) := fun i => sendVal (RS m (i 0).val (prv c)) (tailS i)

def OUT (c : Dev nD) : (cc0_stg5_0 : Ref sig .tc).ty.Contents (Elt F) := k0_pay128 (RS m 7 c)

/-! ## Blocks held -/

def xSet (j : ℕ) : Finset (cc0_scratch0 : Ref sig .tc).ty.Idx := Finset.univ.filter fun i : S8x256x1024.Idx => (i 0).val = j
def sSet (j : ℕ) : Finset (cc0_scratch4 : Ref sig .tc).ty.Idx := Finset.univ.filter fun i : S7x256x1024.Idx => (i 0).val = j
def rSet (j : ℕ) : Finset (cc0_scratch5 : Ref sig .tc).ty.Idx := Finset.univ.filter fun i : S7x256x1024.Idx => (i 0).val = j

def xPts (c : Dev nD) (j : Fin 8) (q : PosShare TreeShare) (f : (cc0_scratch0 : Ref sig .tc).ty.Contents (Elt F)) : sProp 𝕄 :=
  (((c : Thread nD τ).loc cc0_scratch0) ↦[xSet j.val]{q} (f : Buf (Elt F) ((c : Thread nD τ).loc cc0_scratch0)))
def sPts (c : Dev nD) (j : ℕ) (f : (cc0_scratch4 : Ref sig .tc).ty.Contents (Elt F)) : sProp 𝕄 :=
  (((c : Thread nD τ).loc cc0_scratch4) ↦[sSet j]{fullShare} (f : Buf (Elt F) ((c : Thread nD τ).loc cc0_scratch4)))
def rPts (c : Dev nD) (j : ℕ) (f : (cc0_scratch5 : Ref sig .tc).ty.Contents (Elt F)) : sProp 𝕄 :=
  (((c : Thread nD τ).loc cc0_scratch5) ↦[rSet j]{fullShare} (f : Buf (Elt F) ((c : Thread nD τ).loc cc0_scratch5)))

instance xPts_storable (c : Dev nD) (j q f) : BI.Storable (upEmb : UEmb _ 𝕄) (xPts (F := F) c j q f) := by unfold xPts; infer_instance
instance sPts_storable (c : Dev nD) (j f) : BI.Storable (upEmb : UEmb _ 𝕄) (sPts (F := F) c j f) := by unfold sPts; infer_instance
instance rPts_storable (c : Dev nD) (j f) : BI.Storable (upEmb : UEmb _ 𝕄) (rPts (F := F) c j f) := by unfold rPts; infer_instance

/-! ## The schedule -/

abbrev shL : PosShare TreeShare := fullShare.left
abbrev shR : PosShare TreeShare := fullShare.right
/-- The share a hop of the backward gather sends from: the first hop sends the device's own block, whose other half the
    forward gather's first hop sends. -/
def shB (r : ℕ) : PosShare TreeShare := if r = 0 then shR else shL

/-- What the transfer cell `k` of device `c` hands over. -/
def payK (c : Dev nD) (k : ℕ) : sProp 𝕄 :=
  if k < 3 then xPts c (fsl c k) shL (GX m)
  else if k < 6 then xPts c (fsl c (k - 3 + 1)) fullShare (GX m)
  else if k < 10 then xPts c (bsl c (k - 6)) (shB (k - 6)) (GX m)
  else if k < 14 then xPts c (bsl c (k - 10 + 1)) fullShare (GX m)
  else if k < 21 then sPts c (k - 14) (SB m c)
  else rPts c (k - 21) (RB m c)

/-- What device `d` hands the device after it: the blocks of `d` the backward gather writes; -/
def giveR (d : Dev nD) : sProp 𝕄 :=
  iprop((∃ f, xPts d (bsl d 1) fullShare f) ∗ (∃ f, xPts d (bsl d 2) fullShare f) ∗ (∃ f, xPts d (bsl d 3) fullShare f) ∗ (∃ f, xPts (F := F) d (bsl d 4) fullShare f))
/-- and the device before it: the blocks the forward gather writes, and the receive buffer of the reduce-scatter. -/
def giveL (d : Dev nD) : sProp 𝕄 :=
  iprop((∃ f, xPts d (fsl d 1) fullShare f) ∗ (∃ f, xPts d (fsl d 2) fullShare f) ∗ (∃ f, xPts d (fsl d 3) fullShare f)
    ∗ (∃ f, rPts d 0 f) ∗ (∃ f, rPts d 1 f) ∗ (∃ f, rPts d 2 f) ∗ (∃ f, rPts d 3 f) ∗ (∃ f, rPts d 4 f) ∗ (∃ f, rPts d 5 f) ∗ (∃ f, rPts (F := F) d 6 f))

instance giveR_storable (d : Dev nD) : BI.Storable (upEmb : UEmb _ 𝕄) (giveR (F := F) d) := by unfold giveR; infer_instance
instance giveL_storable (d : Dev nD) : BI.Storable (upEmb : UEmb _ 𝕄) (giveL (F := F) d) := by unfold giveL; infer_instance
instance payK_storable (c : Dev nD) (k : ℕ) : BI.Storable (upEmb : UEmb _ 𝕄) (payK (F := F) m c k) := by
  unfold payK; (repeat' split) <;> infer_instance

abbrev IsBar (g : GSem nD τ sig) : Prop := g.1.2 = .tc ∧ g.2 = .reg barS
abbrev IsXfer (g : GSem nD τ sig) : Prop := g.1.2 = .tc ∧ ∃ k : Fin 28, g.2 = .dma (dsem k)

/-- One round, round 0. A barrier cell has the duties `true`, paid by the device after it, and `false`, paid by the
    device before it, of one unit each; a transfer cell the duty `false` of the block's credit. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := match g.2 with
    | .reg _ => if d then giveL (nxt g.1.1) else giveR (prv g.1.1)
    | .dma q => payK m g.1.1 (q.val - 6)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  obtain ⟨⟨c, k⟩, s⟩ := g
  cases s with
  | reg q => show BI.Storable upEmb (if d then giveL (nxt c) else giveR (prv c)); split <;> infer_instance
  | dma q => show BI.Storable upEmb (payK m c (q.val - 6)); infer_instance

section Sched
variable (c : Dev nD) (k : Fin 28)

theorem dma_ne_bar : (SemLoc.dma (dsem k) : SemLoc sig) ≠ .reg barS := fun h => by cases h

theorem duties_bar : (ringRd (F := F) m).duties (barCell c) 0 = Finset.univ := by dsimp only [ringRd]; exact if_pos ⟨rfl, rfl, rfl⟩
theorem duties_dma : (ringRd (F := F) m).duties (dcell c k) 0 = {false} := by
  dsimp only [ringRd]; rw [if_neg (fun h => dma_ne_bar k h.2.2)]; exact if_pos ⟨rfl, rfl, k, rfl⟩
theorem duties_later (g : GSem nD τ sig) : ∀ r, 1 ≤ r → (ringRd (F := F) m).duties g r = ∅ :=
  fun r hr => by dsimp only [ringRd]; rw [if_neg fun h => by omega, if_neg fun h => by omega]

theorem amount_bar (d : Bool) : (ringRd (F := F) m).amount (barCell c) 0 d = 1 := by dsimp only [ringRd]; exact if_pos rfl
theorem amount_dma (d : Bool) : (ringRd (F := F) m).amount (dcell c k) 0 d = N := by dsimp only [ringRd]; exact if_neg (dma_ne_bar k)

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (ringRd (F := F) m).expect (dcell c k) 0 = N := by
  unfold Schedule.expect Schedule.amountOf; rw [duties_dma, Finset.sum_singleton, amount_dma]

theorem payload_bar_true : (ringRd (F := F) m).payload (barCell c) 0 true = giveL (nxt c) := rfl
theorem payload_bar_false : (ringRd (F := F) m).payload (barCell c) 0 false = giveR (prv c) := rfl
theorem payload_dma (d : Bool) : (ringRd (F := F) m).payload (dcell c k) 0 d = payK m c k.val := by
  show payK m c (6 + k.val - 6) = _; rw [Nat.add_sub_cancel_left]

theorem rest_bar : bigSep ((ringRd (F := F) m).duties (barCell c) 0 \ ∅) (fun d => (ringRd (F := F) m).payload (barCell c) 0 d)
    = iprop(giveR (prv c) ∗ giveL (nxt c)) := by
  rw [Finset.sdiff_empty, duties_bar, bigSep_univ_eq_bigSepL [false, true] (by decide) (by decide), bigSepL_cons_cons, bigSepL_singleton,
    payload_bar_false, payload_bar_true]
  rfl
theorem rest_dma : bigSep ((ringRd (F := F) m).duties (dcell c k) 0 \ ∅) (fun d => (ringRd (F := F) m).payload (dcell c k) 0 d) = payK m c k.val := by
  rw [Finset.sdiff_empty, duties_dma, bigSep_singleton, payload_dma]

theorem pay_FS (r : Fin 3) : payK (F := F) m c (kFS r).val = xPts c (fsl c r.val) shL (GX m) := by
  unfold payK kFS; exact if_pos r.isLt
theorem pay_FR (r : Fin 3) : payK (F := F) m c (kFR r).val = xPts c (fsl c (r.val + 1)) fullShare (GX m) := by
  unfold payK kFR; dsimp only
  rw [if_neg (by omega), if_pos (by omega), Nat.add_sub_cancel_left]
theorem pay_BS (r : Fin 4) : payK (F := F) m c (kBS r).val = xPts c (bsl c r.val) (shB r.val) (GX m) := by
  unfold payK kBS; dsimp only
  rw [if_neg (by omega), if_neg (by omega), if_pos (by omega), Nat.add_sub_cancel_left]
theorem pay_BR (r : Fin 4) : payK (F := F) m c (kBR r).val = xPts c (bsl c (r.val + 1)) fullShare (GX m) := by
  unfold payK kBR; dsimp only
  rw [if_neg (by omega), if_neg (by omega), if_neg (by omega), if_pos (by omega), Nat.add_sub_cancel_left]
theorem pay_RS (r : Fin 7) : payK (F := F) m c (kRS r).val = sPts c r.val (SB m c) := by
  unfold payK kRS; dsimp only
  rw [if_neg (by omega), if_neg (by omega), if_neg (by omega), if_neg (by omega), if_pos (by omega), Nat.add_sub_cancel_left]
theorem pay_RR (r : Fin 7) : payK (F := F) m c (kRR r).val = rPts c r.val (RB m c) := by
  unfold payK kRR; dsimp only
  rw [if_neg (by omega), if_neg (by omega), if_neg (by omega), if_neg (by omega), if_neg (by omega), Nat.add_sub_cancel_left]

end Sched

/-! ## What each core owes at launch; the levels -/

/-- What a list of units to pay amounts to, the head paid first. -/
def owing : List (GSem nD τ sig × ℕ) → CellTallies nD τ sig Unit
  | [] => 0
  | p :: l => owing l + tallyAt p.1 () p.2

/-- Device `c`'s payments to other devices, in program order. -/
def evs (c : Dev nD) : List (GSem nD τ sig × ℕ) :=
  [(barCell (prv c), 1), (barCell (nxt c), 1),
    (dcell (nxt c) (kFR 0), N), (dcell (prv c) (kBR 0), N), (dcell (nxt c) (kFR 1), N), (dcell (prv c) (kBR 1), N),
    (dcell (nxt c) (kFR 2), N), (dcell (prv c) (kBR 2), N), (dcell (prv c) (kBR 3), N),
    (dcell (nxt c) (kRR 0), N), (dcell (nxt c) (kRR 1), N), (dcell (nxt c) (kRR 2), N), (dcell (nxt c) (kRR 3), N),
    (dcell (nxt c) (kRR 4), N), (dcell (nxt c) (kRR 5), N), (dcell (nxt c) (kRR 6), N)]

/-- What device `c` still owes after its first `n` payments. -/
def ow (c : Dev nD) (n : ℕ) : CellTallies nD τ sig Unit := owing ((evs c).drop n)

def L (g : GSem nD τ sig) : Finset Unit := if g.1.2 = .tc then {()} else ∅
/-- Barrier cells at 1, the gather's receive cells at 2 and up by their hop, the reduce-scatter's at 10 and up,
    everything else (staging and send cells) at 0. -/
def lvS : SemLoc sig → ℕ
  | .reg _ => 1
  | .dma q => if 9 ≤ q.val ∧ q.val < 12 then q.val - 7 else if 16 ≤ q.val ∧ q.val < 20 then q.val - 14 else if 27 ≤ q.val then q.val - 17 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owing_pos {l : List (GSem nD τ sig × ℕ)} {g : GSem nD τ sig} {u : Unit} (h : 0 < owing l g u) : ∃ n, (g, n) ∈ l := by
  induction l with
  | nil => exact absurd h (Nat.lt_irrefl 0)
  | cons p l ih =>
    unfold owing at h
    rw [Pi.add_apply, Finsupp.add_apply, tallyAt_apply] at h
    by_cases hp : g = p.1 ∧ u = ()
    · exact ⟨p.2, by rw [hp.1]; exact List.mem_cons_self⟩
    · rw [if_neg hp, Nat.add_zero] at h
      obtain ⟨n, hn⟩ := ih h
      exact ⟨n, List.mem_cons_of_mem _ hn⟩

/-- A wait may be made while every payment owed is at a level above its cell's. -/
theorem mayWait (c : Dev nD) (sm : SemLoc sig) (l : List (GSem nD τ sig × ℕ))
    (h : ∀ p ∈ l, p.1.1.2 = .tc ∧ lvS sm < lvS p.1.2) :
    (levAts L lv : sProp 𝕄) ⊢ MayWait (c : Thread nD τ) sm () (owing l) :=
  MayOwe.of_cut (L := L) (lev := lv) (lvS sm) (fun p hp => by rw [Finset.mem_singleton.mp hp, L_tc]; exact Finset.mem_singleton_self _)
    (fun g u hg => by
      obtain ⟨n, hn⟩ := owing_pos hg
      rw [L, if_pos (h _ hn).1]; exact Finset.mem_singleton_self _)
    (fun p hp => by rw [Finset.mem_singleton.mp hp]; exact le_rfl)
    (fun g u hg => by
      obtain ⟨n, hn⟩ := owing_pos hg
      exact (h _ hn).2)

/-! ## Cells, tokens and credits, by name -/

variable (K : Dev nD × Option (Fin 28) → ℕ)

/-- The facts every step may use: the cells' invariants, that each cell has reached its round, the levels. -/
def facts : sProp 𝕄 :=
  iprop((bigSep Finset.univ fun ck : Dev nD × Option (Fin 28) => cellInv ER (ringRd m) (K ck) (kcell ck))
    ∗ (bigSep Finset.univ fun ck : Dev nD × Option (Fin 28) => reached ER (kcell ck) 0) ∗ levAts L lv)

instance facts_persistent : BI.Persistent (facts (F := F) m K) := by unfold facts; infer_instance

theorem facts_inv (ck : Dev nD × Option (Fin 28)) : facts (F := F) m K ⊢ cellInv ER (ringRd m) (K ck) (kcell ck) := by
  unfold facts
  have h : (bigSep Finset.univ fun ck : Dev nD × Option (Fin 28) => (cellInv ER (ringRd m) (K ck) (kcell ck) : sProp 𝕄))
      ⊢ cellInv ER (ringRd m) (K ck) (kcell ck) := bigSep_elim (Finset.mem_univ ck)
  iintro ⟨H, -, -⟩; iapply h; iexact H
theorem facts_reached (ck : Dev nD × Option (Fin 28)) : facts (F := F) m K ⊢ reached ER (kcell ck) 0 := by
  unfold facts
  have h : (bigSep Finset.univ fun ck : Dev nD × Option (Fin 28) => (reached ER (kcell ck) 0 : sProp 𝕄))
      ⊢ reached ER (kcell ck) 0 := bigSep_elim (Finset.mem_univ ck)
  iintro ⟨-, H, -⟩; iapply h; iexact H
theorem facts_lev : facts (F := F) m K ⊢ levAts L lv := by
  unfold facts; iintro ⟨-, -, H⟩; iexact H

/-- The device that holds the receive cell `c`'s transfer `k` credits (a send cell is `c`'s own). -/
def payDev (c : Dev nD) (k : Fin 28) : Dev nD :=
  if k.val < 3 then c else if k.val < 6 then nxt c else if k.val < 10 then c else if k.val < 14 then prv c else if k.val < 21 then c else nxt c

def Pos (c : Dev nD) (k : Fin 28) : sProp 𝕄 := atPos ER (dcell c k) 0 ∅ 0
def Tok (c : Dev nD) (k : Fin 28) : sProp 𝕄 := dutyTok ER (dcell (payDev c k) k) 0 false
def Cr (c : Dev nD) (k : Fin 28) : sProp 𝕄 := cred (tallyAt (dcell c k) () N)
def Zero (c : Dev nD) (k : Fin 28) : sProp 𝕄 := semVal (dcell c k) 0
def Ow (c : Dev nD) (n : ℕ) : sProp 𝕄 := iprop(∃ W, owes (c : Thread nD τ) (ow c n) W)

end Cert.RingProof
-- ==== Proof.Steps.lean ====
/-
One lemma per step of the kernel's body: a hop, a wait, a projection, a load of a block, a head, a send of the
reduce-scatter. Each says what the step takes and what it leaves.
-/
module

public import proofs.«01_k».proof.Proof.Common
public import Idealize.ShloMosaic.Lib.Ring
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Option (Fin 28) → ℕ)

/-! ## The elements of a block -/

theorem slotX_set (j : Fin 8) : (slotX (offX j) (offX_inb j)).view.set = xSet j.val := by
  rw [View.set_reshape]
  show ((View.whole cc0_scratch0).slice _).set = _
  rw [View.set_slice_whole]
  ext i
  simp only [Rect.mem_set_unit, xSet, Finset.mem_filter, Finset.mem_univ, true_and]
  constructor
  · intro h
    have h0 : j.val ≤ (i 0).val ∧ (i 0).val < j.val + 1 := h 0
    omega
  · intro h a
    have h1 : (i 1).val < 256 := (i 1).isLt
    have h2 : (i 2).val < 1024 := (i 2).isLt
    match a with
    | ⟨0, _⟩ => show j.val ≤ (i 0).val ∧ (i 0).val < j.val + 1; omega
    | ⟨1, _⟩ => show 0 ≤ (i 1).val ∧ (i 1).val < 0 + 256; omega
    | ⟨2, _⟩ => show 0 ≤ (i 2).val ∧ (i 2).val < 0 + 1024; omega

theorem rect7_set (j : Fin 7) : (Rect.unit (s := S7x256x1024) (off7 j) S1x256x1024.size (off7_inb j)).set = Finset.univ.filter fun i : S7x256x1024.Idx => (i 0).val = j.val := by
  ext i
  simp only [Rect.mem_set_unit, Finset.mem_filter, Finset.mem_univ, true_and]
  constructor
  · intro h
    have h0 : j.val ≤ (i 0).val ∧ (i 0).val < j.val + 1 := h 0
    omega
  · intro h a
    have h1 : (i 1).val < 256 := (i 1).isLt
    have h2 : (i 2).val < 1024 := (i 2).isLt
    match a with
    | ⟨0, _⟩ => show j.val ≤ (i 0).val ∧ (i 0).val < j.val + 1; omega
    | ⟨1, _⟩ => show 0 ≤ (i 1).val ∧ (i 1).val < 0 + 256; omega
    | ⟨2, _⟩ => show 0 ≤ (i 2).val ∧ (i 2).val < 0 + 1024; omega

theorem slotS_set (j : Fin 7) : (slotS (off7 j) (off7_inb j)).view.set = sSet j.val := by
  rw [View.set_reshape]
  show ((View.whole cc0_scratch4).slice _).set = _
  rw [View.set_slice_whole]; exact rect7_set j
theorem slotR_set (j : Fin 7) : (slotR (off7 j) (off7_inb j)).view.set = rSet j.val := by
  rw [View.set_reshape]
  show ((View.whole cc0_scratch5).slice _).set = _
  rw [View.set_slice_whole]; exact rect7_set j

theorem xPts_eq (c : Dev nD) (j : Fin 8) (q : PosShare TreeShare) (f : (cc0_scratch0 : Ref sig .tc).ty.Contents (Elt F)) :
    (xPts c j q f : sProp 𝕄) = ((slotX (offX j) (offX_inb j)).view.loc (c : Thread nD τ) ↦[(slotX (offX j) (offX_inb j)).view.set]{q} f) := by
  unfold xPts
  exact congrArg (fun S : Finset (cc0_scratch0 : Ref sig .tc).ty.Idx => (((c : Thread nD τ).loc cc0_scratch0) ↦[S]{q} (f : Buf (Elt F) ((c : Thread nD τ).loc cc0_scratch0)) : sProp 𝕄)) (slotX_set j).symm
theorem sPts_eq (c : Dev nD) (j : Fin 7) (f : (cc0_scratch4 : Ref sig .tc).ty.Contents (Elt F)) :
    (sPts c j.val f : sProp 𝕄) = ((slotS (off7 j) (off7_inb j)).view.loc (c : Thread nD τ) ↦[(slotS (off7 j) (off7_inb j)).view.set]{fullShare} f) := by
  unfold sPts
  exact congrArg (fun S : Finset (cc0_scratch4 : Ref sig .tc).ty.Idx => (((c : Thread nD τ).loc cc0_scratch4) ↦[S]{fullShare} (f : Buf (Elt F) ((c : Thread nD τ).loc cc0_scratch4)) : sProp 𝕄)) (slotS_set j).symm
theorem rPts_eq (c : Dev nD) (j : Fin 7) (f : (cc0_scratch5 : Ref sig .tc).ty.Contents (Elt F)) :
    (rPts c j.val f : sProp 𝕄) = ((slotR (off7 j) (off7_inb j)).view.loc (c : Thread nD τ) ↦[(slotR (off7 j) (off7_inb j)).view.set]{fullShare} f) := by
  unfold rPts
  exact congrArg (fun S : Finset (cc0_scratch5 : Ref sig .tc).ty.Idx => (((c : Thread nD τ).loc cc0_scratch5) ↦[S]{fullShare} (f : Buf (Elt F) ((c : Thread nD τ).loc cc0_scratch5)) : sProp 𝕄)) (slotR_set j).symm

/-- What a view writes of what it reads of `g` is `g` there. -/
theorem write_read_self {Val : EltTy → Type} {κ : Kind} {sp : Space} {s : Shape} {e : EltTy} (v : View sig κ sp s e)
    (f g : v.ty.Contents Val) : ∀ i ∈ v.set, v.write Val f (v.read Val g) Finset.univ i = g i := by
  intro i hi
  obtain ⟨x, -, rfl⟩ := Finset.mem_map.mp hi
  rw [View.write_emb_of_mem _ _ (Finset.mem_univ _), View.read_apply, cast_cast, cast_eq]

theorem xPts_half (c : Dev nD) (j : Fin 8) (f : (cc0_scratch0 : Ref sig .tc).ty.Contents (Elt F)) :
    (xPts c j fullShare f : sProp 𝕄) = iprop(xPts c j shL f ∗ xPts c j shR f) := by
  unfold xPts; exact Entails.antisymm (pointsTo_share (PosShare.mem_left_op_right fullShare)).1 (pointsTo_share (PosShare.mem_left_op_right fullShare)).2

/-! ## Transfers -/

theorem creditX (j : Fin 8) (h) : (slotX (offX j) h).view.dmaCredit = N := rfl
theorem creditS (j : Fin 7) (h) : (slotS (off7 j) h).view.dmaCredit = N := rfl
theorem creditR (j : Fin 7) (h) : (slotR (off7 j) h).view.dmaCredit = N := rfl

set_option maxHeartbeats 1000000 in
/-- A hop of the gather from `c` to `n`. -/
theorem wp_hop (c n : Dev nD) (j : Fin 8) (o : Fin 3 → ℕ) (ho : o = offX j) (h : ∀ a, o a + S1x256x1024.size a ≤ S8x256x1024.size a)
    (hw : (Rect.unit (s := S8x256x1024) o S1x256x1024.size h).WholeWords (EltTy.packing .bf16)) (ks kr : Fin 28) (q : PosShare TreeShare) (i : ℕ)
    (p₁ : payK m c ks.val = xPts c j q (GX m)) (p₂ : payK m n kr.val = xPts n j fullShare (GX m))
    (hO : ow c i = ow c (i + 1) + tallyAt (dcell n kr) () N) (Q : PUnit → sProp 𝕄) :
    iprop(facts m K ∗ xPts c j q (GX m) ∗ (∃ f, xPts n j fullShare f) ∗ Ow c i ∗ dutyTok ER (dcell c ks) 0 false ∗ dutyTok ER (dcell n kr) 0 false)
      ⊢ iprop(((Cr c ks ∗ Ow c (i + 1)) -∗ Q ⟨⟩) -∗ WP c (hop o h hw n ks kr) Q) := by
  subst ho
  unfold hop Ow Cr
  iintro ⟨#HF, Hx, ⟨%f, Hn⟩, ⟨%W, HO⟩, Hts, Htr⟩ Hk
  ihave #Hi1 := (facts_inv m K (c, some ks)) $$ HF
  ihave #Hi2 := (facts_inv m K (n, some kr)) $$ HF
  ihave #Hr1 := (facts_reached m K (c, some ks)) $$ HF
  ihave #Hr2 := (facts_reached m K (n, some kr)) $$ HF
  ihave Hx := (Entails.of_eq (xPts_eq c j q (GX m))) $$ Hx
  ihave Hn := (Entails.of_eq (xPts_eq n j fullShare f)) $$ Hn
  unfold Prog.lift
  iapply (Rounds.wp_send_pointsTo 𝒱₀ ER (ringRd m) (c : Thread nD τ) none (κ₁ := K (c, some ks)) (κ₂ := K (n, some kr))
    (c' := (n : Thread nD τ)) (src := slotX (offX j) h) (dst := slotX (offX j) h) (r₁ := 0) (r₂ := 0) (d₁ := false) (d₂ := false) (fs := GX m) (fd := f)
    (by rw [duties_dma]; exact Finset.mem_singleton_self _) (by rw [duties_dma]; exact Finset.mem_singleton_self _)
    () () N (show (slotX (offX j) h).view.amount (.dma (dsem kr)) = N from creditX j h) (amount_dma m c ks false) (amount_dma m n kr false) (ow c (i + 1)) hO (W := W)
    (by rw [payload_dma, p₁, xPts_eq])
    (by rw [payload_dma, p₂, xPts_eq]; exact Entails.of_eq (pointsTo_congr (write_read_self (Val := Elt F) (slotX (offX j) h).view f (GX m))))) $$ [Hx Hn HO Hts Htr]
  · isplitr; · iexact Hi1
    isplitr; · iexact Hi2
    isplitl [Hx]; · iexact Hx
    isplitl [Hn]; · iexact Hn
    isplitl [HO]; · iexact HO
    isplitl [Hts]; · iexact Hts
    isplitr; · iexact Hr1
    isplitl [Htr]; · iexact Htr
    iexact Hr2
  iintro ⟨Hc, HO⟩
  rw [wp_ret]; imodintro
  iapply Hk
  isplitl [Hc]; · iexact Hc
  iexists W; iexact HO

/-- A wait on one of the transfer cells: its payload comes back, and the cell closes. -/
theorem wp_dwait (c : Dev nD) (k : Fin 28) (i : ℕ) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (dsem k)) N K)
    (hl : ∀ p ∈ (evs c).drop i, p.1.1.2 = .tc ∧ lvS (.dma (dsem k)) < lvS p.1.2) (Q : PUnit → sProp 𝕄) :
    iprop(facts m K ∗ Cr c k ∗ Ow c i ∗ Pos c k)
      ⊢ iprop(((Ow c i ∗ Zero c k ∗ payK m c k.val) -∗ Q ⟨⟩) -∗ WP c (Prog.lift w) Q) := by
  unfold Ow Cr Pos Zero
  iintro ⟨#HF, Hc, ⟨%W, HO⟩, Hp⟩ Hk
  ihave #Hi := (facts_inv m K (c, some k)) $$ HF
  unfold Prog.lift
  iapply (Rounds.wp_wait_rest_token 𝒱₀ ER (ringRd m) (c : Thread nD τ) none (κ := K (c, some k)) hw
    (Set.mem_univ _) () (O := ow c i) (W := W) (R := 0) (m := 0) (T := ∅) (by rw [Nat.zero_add, expect_dma])) $$ [Hc HO Hp]
  · isplitr; · iexact Hi
    isplitl [Hc]; · iexact Hc
    isplitl [HO]; · iexact HO
    isplitr
    · iapply (mayWait c (.dma (dsem k)) ((evs c).drop i) hl)
      iapply (facts_lev m K); iexact HF
    iexact Hp
  iintro ⟨HO, Hp, -, Hpay⟩
  ihave Hpay := (Entails.of_eq (rest_dma m c k)) $$ Hpay
  rw [wp_ret]
  imod (Rounds.cell_close ER (ringRd m) (Set.mem_univ (K (c, some k))) (fun h => h) (R := 0 + 1) (duties_later m (dcell c k))) $$ [Hp] with Hz
  · isplitr; · iexact Hi
    iexact Hp
  imodintro
  iapply Hk
  isplitl [HO]; · iexists _; iexact HO
  isplitl [Hz]; · iexact Hz
  iexact Hpay

theorem wp_hopWait (c : Dev nD) (k : Fin 28) (i : ℕ) (o : Fin 3 → ℕ) (h : ∀ a, o a + S1x256x1024.size a ≤ S8x256x1024.size a)
    (hw : (Rect.unit (s := S8x256x1024) o S1x256x1024.size h).WholeWords (EltTy.packing .bf16))
    (hl : ∀ p ∈ (evs c).drop i, p.1.1.2 = .tc ∧ lvS (.dma (dsem k)) < lvS p.1.2) (Q : PUnit → sProp 𝕄) :
    iprop(facts m K ∗ Cr c k ∗ Ow c i ∗ Pos c k)
      ⊢ iprop(((Ow c i ∗ Zero c k ∗ payK m c k.val) -∗ Q ⟨⟩) -∗ WP c (hopWait o h hw k) Q) := by
  unfold hopWait
  exact wp_dwait m K c k i (fun K => (wpE_waitDma2_eq (dst := slotX o h) 𝒱₀ (c : Thread nD τ) none Set.univ K).trans rfl) hl Q

/-! ## Blocks of the gather buffer -/

theorem getBlock_read (j : Fin 8) :
    (xgM : Memref sig .tc .vmem S8x256x1024 .bf16).view.readAt (Elt F) (Rect.unit (s := S8x256x1024) (offX j) S1x256x1024.size (offX_inb j)).toLoadRect (GX m) = xS m j := by
  funext x
  rw [View.readAt_apply]
  show GX m _ = _
  unfold GX
  have h0 : (x 0).val < 1 := (x 0).isLt
  congr 1
  · apply Fin.ext; show j.val + 1 * (x 0).val = _; omega
  · funext a
    match a with
    | ⟨0, _⟩ => exact (Fin.ext (by show (0:ℕ) = (x 0).val; omega) : (0 : Fin 1) = x 0)
    | ⟨1, _⟩ => exact (Fin.ext (by show 0 + 1 * (x 1).val = (x 1).val; omega))
    | ⟨2, _⟩ => exact (Fin.ext (by show 0 + 1 * (x 2).val = (x 2).val; omega))

theorem rectX_set (j : Fin 8) : (Rect.unit (s := S8x256x1024) (offX j) S1x256x1024.size (offX_inb j)).set = xSet j.val := by
  have := slotX_set j
  rw [View.set_reshape] at this
  exact (View.set_slice_whole cc0_scratch0 _).symm.trans this

theorem map_refl_set {α : Type} (S : Finset α) : S.map (Function.Embedding.refl α) = S := Finset.map_refl

theorem wp_getBlock (c : Dev nD) (j : Fin 8) (q : PosShare TreeShare) (o : Fin 3 → ℕ) (ho : o = offX j)
    (h : ∀ a, o a + S1x256x1024.size a ≤ S8x256x1024.size a) (Q : Vec F S1x256x1024 .bf16 → sProp 𝕄) :
    xPts c j q (GX m) ⊢ iprop((xPts c j q (GX m) -∗ Q (xS m j)) -∗ WP c (getBlock o h) Q) := by
  subst ho
  unfold getBlock xPts Prog.lift
  iintro Hx Hk
  iapply (wp_load 𝒱₀ (c : Thread nD τ) none Set.univ (m := xgM) (S := xSet j.val)
    (by rw [show (xgM : Memref sig .tc .vmem S8x256x1024 .bf16).view.setOn (Rect.unit (s := S8x256x1024) (offX j) S1x256x1024.size h).toLoadRect.set = (Rect.unit (s := S8x256x1024) (offX j) S1x256x1024.size h).set from map_refl_set _]
        exact (rectX_set j).subset)) $$ Hx
  iintro Hx
  rw [getBlock_read, wp_ret]; imodintro
  iapply Hk; iexact Hx

theorem pay4_eq (x : Vec F S1x256x1024 .bf16) : k0_pay4 x = x := by
  unfold k0_pay4 k0_pay3
  exact shapeCast_shapeCast _ _ _

/-- Storing `x` into the device's own block leaves the block as the filled buffer has it. -/
theorem putX_write (c : Dev nD) (f : (cc0_scratch0 : Ref sig .tc).ty.Contents (Elt F))
    (h : ∀ a, offX c a + S1x256x1024.size a ≤ S8x256x1024.size a) :
    ∀ i ∈ xSet c.val, ((xgM : Memref sig .tc .vmem S8x256x1024 .bf16).access (Rect.unit (s := S8x256x1024) (offX c) S1x256x1024.size h) : View sig .tc _ _ _).write (Elt F) f (xS m c) Finset.univ i = GX m i := by
  rw [← getBlock_read m c]
  rw [← rectX_set c]
  intro i hi
  exact write_read_self (Val := Elt F) ((xgM : Memref sig .tc .vmem S8x256x1024 .bf16).access (Rect.unit (s := S8x256x1024) (offX c) S1x256x1024.size h)) f (GX m) i
    (by rw [show ((xgM : Memref sig .tc .vmem S8x256x1024 .bf16).access (Rect.unit (s := S8x256x1024) (offX c) S1x256x1024.size h)).set = _ from View.set_slice_whole cc0_scratch0 _]; exact hi)

theorem wp_putX (c : Dev nD) (Q : PUnit → sProp 𝕄) :
    iprop(∃ f, xPts c c fullShare f) ⊢ iprop((xPts c c fullShare (GX m) -∗ Q ⟨⟩) -∗ WP c (putX c (xS m c)) Q) := by
  unfold putX getBlock Prog.lift
  have e : ∀ (o : Fin 3 → ℕ) (ho : o = offX c) (h : ∀ a, o a + S1x256x1024.size a ≤ S8x256x1024.size a)
      (hst : (xgM.access (Rect.unit (s := S8x256x1024) o S1x256x1024.size h) : View sig .tc _ _ _).Stores Finset.univ)
      (hm : (Finset.univ : Finset (Rect.unit (s := S8x256x1024) o S1x256x1024.size h).shape.Idx) = Finset.univ ∨ ∀ a, (Rect.unit (s := S8x256x1024) o S1x256x1024.size h).stride a = 1)
      (hl : (xgM : Memref sig .tc .vmem S8x256x1024 .bf16).view.LoadsAt (Rect.unit (s := S8x256x1024) o S1x256x1024.size h).toLoadRect),
      iprop(∃ f, xPts c c fullShare f) ⊢ iprop((xPts c c fullShare (GX m) -∗ Q ⟨⟩)
        -∗ WP c (.op (.load xgM (Rect.unit (s := S8x256x1024) o S1x256x1024.size h).toLoadRect hl)
            fun _ => .op (.store xgM (Rect.unit (s := S8x256x1024) o S1x256x1024.size h) (k0_pay4 (xS m c)) Finset.univ hst hm) .ret) Q) := by
    intro o ho h hst hm hl
    subst ho
    unfold xPts
    iintro ⟨%f, Hx⟩ Hk
    iapply (wp_load 𝒱₀ (c : Thread nD τ) none Set.univ (m := xgM) (S := xSet c.val)
      (by rw [show (xgM : Memref sig .tc .vmem S8x256x1024 .bf16).view.setOn (Rect.unit (s := S8x256x1024) (offX c) S1x256x1024.size h).toLoadRect.set = (Rect.unit (s := S8x256x1024) (offX c) S1x256x1024.size h).set from map_refl_set _]
          exact (rectX_set c).subset)) $$ Hx
    iintro Hx
    iapply (wp_store 𝒱₀ (c : Thread nD τ) none Set.univ (m := xgM) (r := Rect.unit (s := S8x256x1024) (offX c) S1x256x1024.size h) (Mk := Finset.univ) (S := xSet c.val)
      (by rw [show (xgM.access (Rect.unit (s := S8x256x1024) (offX c) S1x256x1024.size h) : View sig .tc _ _ _).setOn Finset.univ = _ from View.set_slice_whole cc0_scratch0 _]
          exact (rectX_set c).subset)) $$ Hx
    iintro Hx
    rw [wp_ret, pay4_eq]; imodintro
    iapply Hk
    iapply (Entails.of_eq (pointsTo_congr (putX_write m c f h))); iexact Hx
  exact e _ (off1_eq c) _ _ _ _

/-! ## Projections -/

/-- The buffer behind `M`, whose blocks of rows in `D` are those of `g`. -/
def rows (c : Dev nD) (M : Memref sig .tc .vmem S2048x1024 .bf16) (g : S2048x1024.Idx → Elt F .bf16) (D : Finset (Dev nD)) : sProp 𝕄 :=
  iprop(∃ f : Buf (Elt F) (M.view.loc (c : Thread nD τ)), ⌜∀ i, headR i ∈ D → M.view.read (Elt F) f i = g i⌝ ∗ (M.view.loc (c : Thread nD τ) ↦{fullShare} f))

/-- The blocks of rows of `q`, `k`, `v` in `D` are projected. -/
def qkv (c : Dev nD) (D : Finset (Dev nD)) : sProp 𝕄 :=
  iprop(rows c qM (QG m c) D ∗ rows c kM (KG m c) D ∗ rows c vM (VG m c) D)
def qkvFull (c : Dev nD) : sProp 𝕄 :=
  iprop((((c : Thread nD τ).loc cc0_scratch1) ↦{fullShare} (QG m c : Buf (Elt F) ((c : Thread nD τ).loc cc0_scratch1)))
    ∗ (((c : Thread nD τ).loc cc0_scratch2) ↦{fullShare} (KG m c : Buf (Elt F) ((c : Thread nD τ).loc cc0_scratch2)))
    ∗ (((c : Thread nD τ).loc cc0_scratch3) ↦{fullShare} (VG m c : Buf (Elt F) ((c : Thread nD τ).loc cc0_scratch3))))

theorem qkv_full (c : Dev nD) : qkv m c Finset.univ ⊢ qkvFull m c := by
  unfold qkv qkvFull rows
  iintro ⟨⟨%f, %hf, Hq⟩, ⟨%g, %hg, Hk⟩, ⟨%h, %hh, Hv⟩⟩
  obtain rfl : f = QG m c := funext fun i => hf i (Finset.mem_univ _)
  obtain rfl : g = KG m c := funext fun i => hg i (Finset.mem_univ _)
  obtain rfl : h = VG m c := funext fun i => hh i (Finset.mem_univ _)
  isplitl [Hq]; · iexact Hq
  isplitl [Hk] <;> iassumption

theorem qkv_start (c : Dev nD) :
    iprop((∃ f : Buf (Elt F) ((c : Thread nD τ).loc cc0_scratch1), (((c : Thread nD τ).loc cc0_scratch1) ↦{fullShare} f))
      ∗ (∃ f : Buf (Elt F) ((c : Thread nD τ).loc cc0_scratch2), (((c : Thread nD τ).loc cc0_scratch2) ↦{fullShare} f))
      ∗ (∃ f : Buf (Elt F) ((c : Thread nD τ).loc cc0_scratch3), (((c : Thread nD τ).loc cc0_scratch3) ↦{fullShare} f))) ⊢ (qkv m c ∅ : sProp 𝕄) := by
  unfold qkv rows
  iintro ⟨⟨%f, Hq⟩, ⟨%g, Hk⟩, ⟨%h, Hv⟩⟩
  isplitl [Hq]; · iexists f; isplitr; · (ipureintro; exact fun i hi => absurd hi (Finset.notMem_empty _))
                  iexact Hq
  isplitl [Hk]; · iexists g; isplitr; · (ipureintro; exact fun i hi => absurd hi (Finset.notMem_empty _))
                  iexact Hk
  iexists h; isplitr; · (ipureintro; exact fun i hi => absurd hi (Finset.notMem_empty _))
  iexact Hv

theorem rectR_mem (j : Dev nD) (h : ∀ a, offR j a + S256x1024.size a ≤ S2048x1024.size a) (i : S2048x1024.Idx) :
    i ∈ (Rect.unit (s := S2048x1024) (offR j) S256x1024.size h).set ↔ headR i = j := by
  have hj : j.val < 8 := j.isLt
  have h0 : (i 0).val < 2048 := (i 0).isLt
  have h1 : (i 1).val < 1024 := (i 1).isLt
  rw [Rect.mem_set_unit]
  constructor
  · intro hh
    have h0 : 256 * j.val ≤ (i 0).val ∧ (i 0).val < 256 * j.val + 256 := hh 0
    exact Fin.ext (by show (i 0).val / 256 = j.val; omega)
  · intro hh a
    have hv : (i 0).val / 256 = j.val := congrArg Fin.val hh
    match a with
    | ⟨0, _⟩ => show 256 * j.val ≤ (i 0).val ∧ (i 0).val < 256 * j.val + 256; omega
    | ⟨1, _⟩ => show 0 ≤ (i 1).val ∧ (i 1).val < 0 + 1024; omega

theorem tailR_emb (j : Dev nD) (h : ∀ a, offR j a + S256x1024.size a ≤ S2048x1024.size a) (x : (Rect.unit (s := S2048x1024) (offR j) S256x1024.size h).shape.Idx) :
    headR ((Rect.unit (s := S2048x1024) (offR j) S256x1024.size h).emb x) = j ∧ tailR ((Rect.unit (s := S2048x1024) (offR j) S256x1024.size h).emb x) = x := by
  have h0 : (x 0).val < 256 := (x 0).isLt
  constructor
  · apply Fin.ext; show (256 * j.val + 1 * (x 0).val) / 256 = j.val; omega
  · funext a
    match a with
    | ⟨0, _⟩ => exact (Fin.ext (by show (256 * j.val + 1 * (x 0).val) % 256 = (x 0).val; omega))
    | ⟨1, _⟩ => exact (Fin.ext (by show 0 + 1 * (x 1).val = (x 1).val; omega))

theorem write_rows {e : EltTy} (v : View sig .tc .vmem S2048x1024 e) (j : Dev nD) (D : Finset (Dev nD))
    (h : ∀ a, offR j a + S256x1024.size a ≤ S2048x1024.size a) (f : v.ty.Contents (Elt F)) (w : S256x1024.Idx → Elt F e) (g : S2048x1024.Idx → Elt F e)
    (hw : ∀ i, headR i = j → g i = w (tailR i)) (hf : ∀ i, headR i ∈ D → v.read (Elt F) f i = g i) :
    ∀ i, headR i ∈ insert j D → v.read (Elt F) ((v.slice (Rect.unit (s := S2048x1024) (offR j) S256x1024.size h)).write (Elt F) f w Finset.univ) i = g i := by
  intro i hi
  by_cases hij : i ∈ (Rect.unit (s := S2048x1024) (offR j) S256x1024.size h).set
  · rw [← Rect.map_emb_univ] at hij
    obtain ⟨x, -, rfl⟩ := Finset.mem_map.mp hij
    rw [View.read_slice_write_emb _ _ _ (Finset.mem_univ _), hw _ (tailR_emb j h x).1, (tailR_emb j h x).2]
  · rw [View.read_slice_write_of_not_mem _ _ _ _ (by rw [Rect.map_emb_univ]; exact hij)]
    refine hf i ?_
    rcases Finset.mem_insert.mp hi with hi | hi
    · exact absurd ((rectR_mem j h i).mpr hi) hij
    · exact hi

theorem wp_putRows (c : Dev nD) (M : Memref sig .tc .vmem S2048x1024 .bf16) (hM : M.IsWhole) (j : Dev nD) (D : Finset (Dev nD)) (o : Fin 2 → ℕ) (ho : o = offR j)
    (h : ∀ a, o a + S256x1024.size a ≤ S2048x1024.size a) (hp : (Rect.unit (s := S2048x1024) o S256x1024.size h).PackedRows (EltTy.packing .bf16))
    (w : Vec F S256x1024 .bf16) (g : S2048x1024.Idx → Elt F .bf16) (hw : ∀ i, headR i = j → g i = w (tailR i)) (Q : PUnit → sProp 𝕄) :
    rows c M g D ⊢ iprop((rows c M g (insert j D) -∗ Q ⟨⟩) -∗ WP c (putRows M hM o h hp w) Q) := by
  subst ho
  unfold putRows Prog.lift rows
  iintro ⟨%f, %hf, Hx⟩ Hk
  iapply (wp_load 𝒱₀ (c : Thread nD τ) none Set.univ (m := M) (Finset.subset_univ _)) $$ Hx
  iintro Hx
  iapply (wp_store 𝒱₀ (c : Thread nD τ) none Set.univ (m := M) (r := Rect.unit (s := S2048x1024) (offR j) S256x1024.size h) (Mk := Finset.univ) (Finset.subset_univ _)) $$ Hx
  iintro Hx
  rw [wp_ret]; imodintro
  iapply Hk
  iexists _
  isplitr
  · ipureintro; exact write_rows M.view j D h f w g hw hf
  iexact Hx

/-- The projections of one block of rows. -/
theorem wp_project (c : Dev nD) (j : Dev nD) (D : Finset (Dev nD)) (o : Fin 2 → ℕ) (ho : o = offR j)
    (h : ∀ a, o a + S256x1024.size a ≤ S2048x1024.size a) (hp : (Rect.unit (s := S2048x1024) o S256x1024.size h).PackedRows (EltTy.packing .bf16))
    (Q : PUnit → sProp 𝕄) :
    qkv m c D ⊢ iprop((qkv m c (insert j D) -∗ Q ⟨⟩) -∗ WP c (project o h hp (W3 m c) (xS m j)) Q) := by
  unfold qkv project
  simp only [wp_bind]
  iintro ⟨Hq, Hk, Hv⟩ HK
  iapply (wp_putRows c qM (Memref.isWhole_whole _) j D o ho h hp _ (QG m c) (fun i hi => by subst hi; rfl)) $$ Hq
  iintro Hq
  iapply (wp_putRows c kM (Memref.isWhole_whole _) j D o ho h hp _ (KG m c) (fun i hi => by subst hi; rfl)) $$ Hk
  iintro Hk
  iapply (wp_putRows c vM (Memref.isWhole_whole _) j D o ho h hp _ (VG m c) (fun i hi => by subst hi; rfl)) $$ Hv
  iintro Hv
  iapply HK
  isplitl [Hq]; · iexact Hq
  isplitl [Hk]; · iexact Hk
  iexact Hv

/-! ## Heads -/

/-- One head of one step. -/
theorem wp_head (c : Dev nD) (o : Fin 2 → ℕ) (h : ∀ a, o a + S256x128.size a ≤ S2048x1024.size a) (o' : Fin 2 → ℕ) (h' : ∀ a, o' a + S2048x128.size a ≤ S2048x1024.size a)
    (Q : FVec F S256x128 .bf16 → sProp 𝕄) :
    qkvFull m c ⊢ iprop((qkvFull m c -∗ Q (headG m c o h o' h')) -∗ WP c (head o h o' h') Q) := by
  unfold qkvFull head Prog.lift headG
  simp only [wp_bind]
  iintro ⟨Hq, Hk, Hv⟩ HK
  iapply (wp_load 𝒱₀ (c : Thread nD τ) none Set.univ (m := qM) (Finset.subset_univ _)) $$ Hq
  iintro Hq; rw [wp_ret]; imodintro
  iapply (wp_load 𝒱₀ (c : Thread nD τ) none Set.univ (m := kM) (Finset.subset_univ _)) $$ Hk
  iintro Hk; rw [wp_ret]; imodintro
  iapply (wp_load 𝒱₀ (c : Thread nD τ) none Set.univ (m := vM) (Finset.subset_univ _)) $$ Hv
  iintro Hv; rw [wp_ret]; imodintro
  rw [wp_pure]
  imodintro
  iapply HK
  isplitl [Hq]; · iexact Hq
  isplitl [Hk]; · iexact Hk
  iexact Hv

/-- One step's attention and its product with the output weight. -/
theorem wp_psum (c : Dev nD) (s : Fin 8) (Q : FVec F S256x1024 .f32 → sProp 𝕄) :
    qkvFull m c ⊢ iprop((qkvFull m c -∗ Q (PS m c s)) -∗ WP c (psum c s (WO m c)) Q) := by
  unfold psum PS
  simp only [wp_bind]
  iintro H HK
  iapply (wp_head m c (k0_off9 c (BitVec.ofNat 32 s.val)) (k0_off9_inb c s) ![0, 0] inb_S2048x1024_S2048x128_0_0) $$ H; iintro H
  iapply (wp_head m c (k0_off10 c (BitVec.ofNat 32 s.val)) (k0_off10_inb c s) ![0, 128] inb_S2048x1024_S2048x128_0_128) $$ H; iintro H
  iapply (wp_head m c (k0_off11 c (BitVec.ofNat 32 s.val)) (k0_off11_inb c s) ![0, 256] inb_S2048x1024_S2048x128_0_256) $$ H; iintro H
  iapply (wp_head m c (k0_off12 c (BitVec.ofNat 32 s.val)) (k0_off12_inb c s) ![0, 384] inb_S2048x1024_S2048x128_0_384) $$ H; iintro H
  iapply (wp_head m c (k0_off13 c (BitVec.ofNat 32 s.val)) (k0_off13_inb c s) ![0, 512] inb_S2048x1024_S2048x128_0_512) $$ H; iintro H
  iapply (wp_head m c (k0_off14 c (BitVec.ofNat 32 s.val)) (k0_off14_inb c s) ![0, 640] inb_S2048x1024_S2048x128_0_640) $$ H; iintro H
  iapply (wp_head m c (k0_off15 c (BitVec.ofNat 32 s.val)) (k0_off15_inb c s) ![0, 768] inb_S2048x1024_S2048x128_0_768) $$ H; iintro H
  iapply (wp_head m c (k0_off16 c (BitVec.ofNat 32 s.val)) (k0_off16_inb c s) ![0, 896] inb_S2048x1024_S2048x128_0_896) $$ H; iintro H
  rw [wp_pure]
  imodintro
  iapply HK; iexact H

end Cert.RingProof
-- ==== Proof.Hops.lean ====
/-
The steps of the gather and of the reduce-scatter, by hop, with what is held at each stage of one hop.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Option (Fin 28) → ℕ)

theorem payDev_FS (c : Dev nD) (r : Fin 3) : payDev c (kFS r) = c := by revert c r; decide
theorem payDev_FR (c : Dev nD) (r : Fin 3) : payDev c (kFR r) = nxt c := by revert c r; decide
theorem payDev_BS (c : Dev nD) (r : Fin 4) : payDev c (kBS r) = c := by revert c r; decide
theorem payDev_BR (c : Dev nD) (r : Fin 4) : payDev c (kBR r) = prv c := by revert c r; decide
theorem payDev_RS (c : Dev nD) (r : Fin 7) : payDev c (kRS r) = c := by revert c r; decide
theorem payDev_RR (c : Dev nD) (r : Fin 7) : payDev c (kRR r) = nxt c := by revert c r; decide
theorem fsl_nxt (c : Dev nD) (r : Fin 3) : fsl (nxt c) (r.val + 1) = fsl c r.val := by revert c r; decide
theorem bsl_prv (c : Dev nD) (r : Fin 4) : bsl (prv c) (r.val + 1) = bsl c r.val := by revert c r; decide

/-! ## The gather, hop by hop -/

/-- What device `c` has for the forward hop `r`: before it, after its send, after its receive. -/
def fIn (c : Dev nD) (r : Fin 3) : sProp 𝕄 :=
  iprop((∃ f, xPts (nxt c) (fsl c r.val) fullShare f) ∗ Tok c (kFS r) ∗ Tok c (kFR r) ∗ Pos c (kFS r) ∗ Pos c (kFR r) ∗ Cr c (kFR r))
def fSnt (c : Dev nD) (r : Fin 3) : sProp 𝕄 := iprop(Pos c (kFS r) ∗ Cr c (kFS r) ∗ Pos c (kFR r) ∗ Cr c (kFR r))
def fGot (c : Dev nD) (r : Fin 3) : sProp 𝕄 := iprop(Pos c (kFS r) ∗ Cr c (kFS r))

/-- A hop to the right is started. -/
theorem wp_hopF (c n : Dev nD) (hn : n = nxt c) (r : Fin 3) (i : ℕ) (hO : ow c i = ow c (i + 1) + tallyAt (dcell (nxt c) (kFR r)) () N) (Q : PUnit → sProp 𝕄) :
    iprop(facts m K ∗ xPts c (fsl c r.val) shL (GX m) ∗ fIn c r ∗ Ow c i)
      ⊢ iprop(((fSnt c r ∗ Ow c (i + 1)) -∗ Q ⟨⟩) -∗ WP c (hopF c r n) Q) := by
  subst hn
  unfold hopF fIn fSnt Tok
  rw [payDev_FS, payDev_FR]
  iintro ⟨#HF, Hx, ⟨Hn, Ht1, Ht2, Hp1, Hp2, Hc⟩, HO⟩ Hk
  iapply (wp_hop m K c (nxt c) (fsl c r.val) _ (off2_eq c r) _ _ (kFS r) (kFR r) shL i (pay_FS m c r) (by rw [pay_FR, fsl_nxt]) hO) $$ [Hx Hn HO Ht1 Ht2]
  · isplitr; · iexact HF
    isplitl [Hx]; · iexact Hx
    isplitl [Hn]; · iexact Hn
    isplitl [HO]; · iexact HO
    isplitl [Ht1] <;> iassumption
  iintro ⟨Hs, HO⟩
  iapply Hk
  isplitr [HO]
  · isplitl [Hp1]; · iexact Hp1
    isplitl [Hs]; · iexact Hs
    isplitl [Hp2] <;> iassumption
  iexact HO

/-- The block from the left arrives. -/
theorem wp_recvF (c : Dev nD) (r : Fin 3) (i : ℕ) (hl : ∀ p ∈ (evs c).drop i, p.1.1.2 = .tc ∧ lvS (.dma (dsem (kFR r))) < lvS p.1.2) (Q : PUnit → sProp 𝕄) :
    iprop(facts m K ∗ fSnt c r ∗ Ow c i)
      ⊢ iprop(((fGot c r ∗ Zero c (kFR r) ∗ xPts c (fsl c (r.val + 1)) shL (GX m) ∗ xPts c (fsl c (r.val + 1)) shR (GX m) ∗ Ow c i) -∗ Q ⟨⟩) -∗ WP c (recvF c r) Q) := by
  unfold recvF fSnt fGot
  iintro ⟨#HF, ⟨Hp1, Hc1, Hp2, Hc2⟩, HO⟩ Hk
  iapply (wp_hopWait m K c (kFR r) i _ _ _ hl) $$ [Hc2 HO Hp2]
  · isplitr; · iexact HF
    isplitl [Hc2]; · iexact Hc2
    isplitl [HO] <;> iassumption
  iintro ⟨HO, Hz, Hpay⟩
  ihave Hpay := (Entails.of_eq ((pay_FR m c r).trans (xPts_half c _ _))) $$ Hpay
  icases Hpay with ⟨HL, HR⟩
  iapply Hk
  isplitl [Hp1 Hc1]
  · isplitl [Hp1] <;> iassumption
  isplitl [Hz]; · iexact Hz
  isplitl [HL]; · iexact HL
  isplitl [HR] <;> iassumption

/-- A hop to the right has left. -/
theorem wp_sentF (c : Dev nD) (r : Fin 3) (i : ℕ) (hl : ∀ p ∈ (evs c).drop i, p.1.1.2 = .tc ∧ lvS (.dma (dsem (kFS r))) < lvS p.1.2) (Q : PUnit → sProp 𝕄) :
    iprop(facts m K ∗ fGot c r ∗ Ow c i)
      ⊢ iprop(((Zero c (kFS r) ∗ xPts c (fsl c r.val) shL (GX m) ∗ Ow c i) -∗ Q ⟨⟩) -∗ WP c (sentF c r) Q) := by
  unfold sentF fGot
  iintro ⟨#HF, ⟨Hp1, Hc1⟩, HO⟩ Hk
  iapply (wp_hopWait m K c (kFS r) i _ _ _ hl) $$ [Hc1 HO Hp1]
  · isplitr; · iexact HF
    isplitl [Hc1]; · iexact Hc1
    isplitl [HO] <;> iassumption
  iintro ⟨HO, Hz, Hpay⟩
  ihave Hpay := (Entails.of_eq (pay_FS m c r)) $$ Hpay
  iapply Hk
  isplitl [Hz]; · iexact Hz
  isplitl [Hpay] <;> iassumption

/-- The same for the backward hop `r`. -/
def bIn (c : Dev nD) (r : Fin 4) : sProp 𝕄 :=
  iprop((∃ f, xPts (prv c) (bsl c r.val) fullShare f) ∗ Tok c (kBS r) ∗ Tok c (kBR r) ∗ Pos c (kBS r) ∗ Pos c (kBR r) ∗ Cr c (kBR r))
def bSnt (c : Dev nD) (r : Fin 4) : sProp 𝕄 := iprop(Pos c (kBS r) ∗ Cr c (kBS r) ∗ Pos c (kBR r) ∗ Cr c (kBR r))
def bGot (c : Dev nD) (r : Fin 4) : sProp 𝕄 := iprop(Pos c (kBS r) ∗ Cr c (kBS r))

/-- A hop to the left is started. -/
theorem wp_hopB (c n : Dev nD) (hn : n = prv c) (r : Fin 4) (i : ℕ) (hO : ow c i = ow c (i + 1) + tallyAt (dcell (prv c) (kBR r)) () N) (Q : PUnit → sProp 𝕄) :
    iprop(facts m K ∗ xPts c (bsl c r.val) (shB r.val) (GX m) ∗ bIn c r ∗ Ow c i)
      ⊢ iprop(((bSnt c r ∗ Ow c (i + 1)) -∗ Q ⟨⟩) -∗ WP c (hopB c r n) Q) := by
  subst hn
  unfold hopB bIn bSnt Tok
  rw [payDev_BS, payDev_BR]
  iintro ⟨#HF, Hx, ⟨Hn, Ht1, Ht2, Hp1, Hp2, Hc⟩, HO⟩ Hk
  iapply (wp_hop m K c (prv c) (bsl c r.val) _ (off3_eq c r) _ _ (kBS r) (kBR r) (shB r.val) i (pay_BS m c r) (by rw [pay_BR, bsl_prv]) hO) $$ [Hx Hn HO Ht1 Ht2]
  · isplitr; · iexact HF
    isplitl [Hx]; · iexact Hx
    isplitl [Hn]; · iexact Hn
    isplitl [HO]; · iexact HO
    isplitl [Ht1] <;> iassumption
  iintro ⟨Hs, HO⟩
  iapply Hk
  isplitr [HO]
  · isplitl [Hp1]; · iexact Hp1
    isplitl [Hs]; · iexact Hs
    isplitl [Hp2] <;> iassumption
  iexact HO

/-- The block from the right arrives. -/
theorem wp_recvB (c : Dev nD) (r : Fin 4) (i : ℕ) (hl : ∀ p ∈ (evs c).drop i, p.1.1.2 = .tc ∧ lvS (.dma (dsem (kBR r))) < lvS p.1.2) (Q : PUnit → sProp 𝕄) :
    iprop(facts m K ∗ bSnt c r ∗ Ow c i)
      ⊢ iprop(((bGot c r ∗ Zero c (kBR r) ∗ xPts c (bsl c (r.val + 1)) shL (GX m) ∗ xPts c (bsl c (r.val + 1)) shR (GX m) ∗ Ow c i) -∗ Q ⟨⟩) -∗ WP c (recvB c r) Q) := by
  unfold recvB bSnt bGot
  iintro ⟨#HF, ⟨Hp1, Hc1, Hp2, Hc2⟩, HO⟩ Hk
  iapply (wp_hopWait m K c (kBR r) i _ _ _ hl) $$ [Hc2 HO Hp2]
  · isplitr; · iexact HF
    isplitl [Hc2]; · iexact Hc2
    isplitl [HO] <;> iassumption
  iintro ⟨HO, Hz, Hpay⟩
  ihave Hpay := (Entails.of_eq ((pay_BR m c r).trans (xPts_half c _ _))) $$ Hpay
  icases Hpay with ⟨HL, HR⟩
  iapply Hk
  isplitl [Hp1 Hc1]
  · isplitl [Hp1] <;> iassumption
  isplitl [Hz]; · iexact Hz
  isplitl [HL]; · iexact HL
  isplitl [HR] <;> iassumption

/-- A hop to the left has left. -/
theorem wp_sentB (c : Dev nD) (r : Fin 4) (i : ℕ) (hl : ∀ p ∈ (evs c).drop i, p.1.1.2 = .tc ∧ lvS (.dma (dsem (kBS r))) < lvS p.1.2) (Q : PUnit → sProp 𝕄) :
    iprop(facts m K ∗ bGot c r ∗ Ow c i)
      ⊢ iprop(((Zero c (kBS r) ∗ xPts c (bsl c r.val) (shB r.val) (GX m) ∗ Ow c i) -∗ Q ⟨⟩) -∗ WP c (sentB c r) Q) := by
  unfold sentB bGot
  iintro ⟨#HF, ⟨Hp1, Hc1⟩, HO⟩ Hk
  iapply (wp_hopWait m K c (kBS r) i _ _ _ hl) $$ [Hc1 HO Hp1]
  · isplitr; · iexact HF
    isplitl [Hc1]; · iexact Hc1
    isplitl [HO] <;> iassumption
  iintro ⟨HO, Hz, Hpay⟩
  ihave Hpay := (Entails.of_eq (pay_BS m c r)) $$ Hpay
  iapply Hk
  isplitl [Hz]; · iexact Hz
  isplitl [Hpay] <;> iassumption

/-- The projections of a block that came from the left. -/
theorem wp_projF (c : Dev nD) (r : Fin 3) (D : Finset (Dev nD)) (Q : PUnit → sProp 𝕄) :
    iprop(xPts c (fsl c (r.val + 1)) shR (GX m) ∗ qkv m c D)
      ⊢ iprop(((xPts c (fsl c (r.val + 1)) shR (GX m) ∗ qkv m c (insert (fsl c (r.val + 1)) D)) -∗ Q ⟨⟩) -∗ WP c (projF c r (W3 m c)) Q) := by
  unfold projF
  rw [show WP c (_ >>= _) Q = _ from wp_bind _ _ _ _ _ _]
  iintro ⟨Hx, Hq⟩ Hk
  iapply (wp_getBlock m c (fsl c (r.val + 1)) shR _ (off5_eq c r)) $$ Hx
  iintro Hx
  iapply (wp_project m c (fsl c (r.val + 1)) D _ (off6_eq c r)) $$ Hq
  iintro Hq
  iapply Hk
  isplitl [Hx] <;> iassumption

/-- The projections of a block that came from the right. -/
theorem wp_projB (c : Dev nD) (r : Fin 4) (D : Finset (Dev nD)) (Q : PUnit → sProp 𝕄) :
    iprop(xPts c (bsl c (r.val + 1)) shR (GX m) ∗ qkv m c D)
      ⊢ iprop(((xPts c (bsl c (r.val + 1)) shR (GX m) ∗ qkv m c (insert (bsl c (r.val + 1)) D)) -∗ Q ⟨⟩) -∗ WP c (projB c r (W3 m c)) Q) := by
  unfold projB
  rw [show WP c (_ >>= _) Q = _ from wp_bind _ _ _ _ _ _]
  iintro ⟨Hx, Hq⟩ Hk
  iapply (wp_getBlock m c (bsl c (r.val + 1)) shR _ (off7_eq c r)) $$ Hx
  iintro Hx
  iapply (wp_project m c (bsl c (r.val + 1)) D _ (off8_eq c r)) $$ Hq
  iintro Hq
  iapply Hk
  isplitl [Hx] <;> iassumption

/-! ## The reduce-scatter, step by step -/

/-- What device `c` has for the step `r`: before its send, after it, after its receive; after its last wait. -/
def rIn (c : Dev nD) (r : Fin 7) : sProp 𝕄 :=
  iprop((∃ f, sPts c r.val f) ∗ (∃ f, rPts (nxt c) r.val f) ∗ Tok c (kRS r) ∗ Tok c (kRR r) ∗ Pos c (kRS r) ∗ Pos c (kRR r) ∗ Cr c (kRR r))
def rSnt (c : Dev nD) (r : Fin 7) : sProp 𝕄 := iprop(Pos c (kRS r) ∗ Cr c (kRS r) ∗ Pos c (kRR r) ∗ Cr c (kRR r))
def rGot (c : Dev nD) (r : Fin 7) : sProp 𝕄 := iprop(Pos c (kRS r) ∗ Cr c (kRS r) ∗ Zero c (kRR r) ∗ rPts c r.val (RB m c))
def rOut (c : Dev nD) (r : Fin 7) : sProp 𝕄 := iprop(Zero c (kRS r) ∗ Zero c (kRR r) ∗ sPts c r.val (SB m c) ∗ rPts c r.val (RB m c))

theorem read7 (g : S7x256x1024.Idx → Elt F .bf16) (b : Ref sig .tc) (M : Memref sig .tc .vmem S7x256x1024 .bf16) (f : M.view.ty.Contents (Elt F)) (hf : M.view.read (Elt F) f = g) (r : Fin 7)
    (w : S1x256x1024.Idx → Elt F .bf16) (hg : ∀ i : S7x256x1024.Idx, (i 0).val = r.val → g i = w (tailS i)) :
    M.view.readAt (Elt F) (Rect.unit (s := S7x256x1024) (off7 r) S1x256x1024.size (off7_inb r)).toLoadRect f = w := by
  subst hf
  funext x
  rw [View.readAt_apply]
  have h0 : (x 0).val < 1 := (x 0).isLt
  rw [hg _ (by show r.val + 1 * (x 0).val = r.val; omega)]
  congr 1
  funext a
  match a with
  | ⟨0, _⟩ => exact (Fin.ext (by show (0:ℕ) = (x 0).val; omega) : (0 : Fin 1) = x 0)
  | ⟨1, _⟩ => exact (Fin.ext (by show 0 + 1 * (x 1).val = (x 1).val; omega))
  | ⟨2, _⟩ => exact (Fin.ext (by show 0 + 1 * (x 2).val = (x 2).val; omega))

theorem readS (c : Dev nD) (r : Fin 7) :
    (sbM : Memref sig .tc .vmem S7x256x1024 .bf16).view.readAt (Elt F) (Rect.unit (s := S7x256x1024) (off7 r) S1x256x1024.size (off7_inb r)).toLoadRect (SB m c) = sendVal (RS m r.val c) :=
  read7 (SB m c) cc0_scratch4 sbM (SB m c) rfl r _ (fun i hi => by unfold SB; rw [hi])
theorem readR (c : Dev nD) (r : Fin 7) :
    (rbM : Memref sig .tc .vmem S7x256x1024 .bf16).view.readAt (Elt F) (Rect.unit (s := S7x256x1024) (off7 r) S1x256x1024.size (off7_inb r)).toLoadRect (RB m c) = sendVal (RS m r.val (prv c)) :=
  read7 (RB m c) cc0_scratch5 rbM (RB m c) rfl r _ (fun i hi => by unfold RB; rw [hi])

theorem sb_write (c : Dev nD) (r : Fin 7) (f : (cc0_scratch4 : Ref sig .tc).ty.Contents (Elt F)) :
    ∀ i ∈ sSet r.val, ((sbM : Memref sig .tc .vmem S7x256x1024 .bf16).access (Rect.unit (s := S7x256x1024) (off7 r) S1x256x1024.size (off7_inb r)) : View sig .tc _ _ _).write (Elt F) f (sendVal (RS m r.val c)) Finset.univ i = SB m c i := by
  rw [← readS m c r]
  intro i hi
  exact write_read_self (Val := Elt F) ((sbM : Memref sig .tc .vmem S7x256x1024 .bf16).access (Rect.unit (s := S7x256x1024) (off7 r) S1x256x1024.size (off7_inb r))) f (SB m c) i
    (by rw [show ((sbM : Memref sig .tc .vmem S7x256x1024 .bf16).access (Rect.unit (s := S7x256x1024) (off7 r) S1x256x1024.size (off7_inb r))).set = _ from View.set_slice_whole cc0_scratch4 _]
        exact (rect7_set r).symm ▸ hi)

theorem rb_land (c : Dev nD) (r : Fin 7) (f : (cc0_scratch5 : Ref sig .tc).ty.Contents (Elt F)) :
    ∀ i ∈ (slotR (off7 r) (off7_inb r)).view.set,
      (slotR (off7 r) (off7_inb r)).view.write (Elt F) f ((slotS (off7 r) (off7_inb r)).view.read (Elt F) (SB m c)) Finset.univ i = RB m (nxt c) i := by
  have e : (slotS (off7 r) (off7_inb r)).view.read (Elt F) (SB m c) = (slotR (off7 r) (off7_inb r)).view.read (Elt F) (RB m (nxt c)) := by
    funext x
    rw [View.read_apply, View.read_apply]
    show SB m c _ = RB m (nxt c) _
    unfold SB RB
    rw [prv_nxt]
    rfl
  rw [e]
  exact write_read_self (Val := Elt F) (slotR (off7 r) (off7_inb r)).view f (RB m (nxt c))

set_option maxHeartbeats 1000000 in
/-- A running sum is sent on. -/
theorem wp_rsSend (c n : Dev nD) (hn : n = nxt c) (r : Fin 7) (i : ℕ) (hO : ow c i = ow c (i + 1) + tallyAt (dcell (nxt c) (kRR r)) () N)
    (val : FVec F S1x256x1024 .bf16) (hval : val = sendVal (RS m r.val c)) (Q : PUnit → sProp 𝕄) :
    iprop(facts m K ∗ rIn c r ∗ Ow c i) ⊢ iprop(((rSnt c r ∗ Ow c (i + 1)) -∗ Q ⟨⟩) -∗ WP c (rsSend r n val) Q) := by
  subst hn hval
  unfold rsSend rIn rSnt Tok Ow Cr Prog.lift
  rw [payDev_RS, payDev_RR]
  iintro ⟨#HF, ⟨⟨%f, Hs⟩, ⟨%g, Hn⟩, Ht1, Ht2, Hp1, Hp2, Hc⟩, ⟨%W, HO⟩⟩ Hk
  ihave #Hi1 := (facts_inv m K (c, some (kRS r))) $$ HF
  ihave #Hi2 := (facts_inv m K (nxt c, some (kRR r))) $$ HF
  ihave #Hr1 := (facts_reached m K (c, some (kRS r))) $$ HF
  ihave #Hr2 := (facts_reached m K (nxt c, some (kRR r))) $$ HF
  unfold sPts
  iapply (wp_load 𝒱₀ (c : Thread nD τ) none Set.univ (m := sbM) (S := sSet r.val)
    (by rw [show (sbM : Memref sig .tc .vmem S7x256x1024 .bf16).view.setOn (Rect.unit (s := S7x256x1024) (off7 r) S1x256x1024.size (off7_inb r)).toLoadRect.set = (Rect.unit (s := S7x256x1024) (off7 r) S1x256x1024.size (off7_inb r)).set from map_refl_set _]
        exact (rect7_set r).subset)) $$ Hs
  iintro Hs
  iapply (wp_store 𝒱₀ (c : Thread nD τ) none Set.univ (m := sbM) (r := Rect.unit (s := S7x256x1024) (off7 r) S1x256x1024.size (off7_inb r)) (Mk := Finset.univ) (S := sSet r.val)
    (by rw [show (sbM.access (Rect.unit (s := S7x256x1024) (off7 r) S1x256x1024.size (off7_inb r)) : View sig .tc _ _ _).setOn Finset.univ = _ from View.set_slice_whole cc0_scratch4 _]
        exact (rect7_set r).subset)) $$ Hs
  iintro Hs
  ihave Hs := (Entails.of_eq ((pointsTo_congr (sb_write m c r f)).trans (sPts_eq c r (SB m c)))) $$ Hs
  ihave Hn := (Entails.of_eq (rPts_eq (nxt c) r g)) $$ Hn
  iapply (Rounds.wp_send_pointsTo 𝒱₀ ER (ringRd m) (c : Thread nD τ) none (κ₁ := K (c, some (kRS r))) (κ₂ := K (nxt c, some (kRR r)))
    (c' := (nxt c : Thread nD τ)) (src := slotS (off7 r) (off7_inb r)) (dst := slotR (off7 r) (off7_inb r)) (r₁ := 0) (r₂ := 0) (d₁ := false) (d₂ := false) (fs := SB m c) (fd := g)
    (by rw [duties_dma]; exact Finset.mem_singleton_self _) (by rw [duties_dma]; exact Finset.mem_singleton_self _)
    () () N (show (slotR (off7 r) (off7_inb r)).view.amount (.dma (dsem (kRR r))) = N from creditR r _) (amount_dma m c (kRS r) false) (amount_dma m (nxt c) (kRR r) false) (ow c (i + 1)) hO (W := W)
    (by rw [payload_dma, pay_RS, sPts_eq])
    (by rw [payload_dma, pay_RR, rPts_eq]; exact Entails.of_eq (pointsTo_congr (rb_land m c r g)))) $$ [Hs Hn HO Ht1 Ht2]
  · isplitr; · iexact Hi1
    isplitr; · iexact Hi2
    isplitl [Hs]; · iexact Hs
    isplitl [Hn]; · iexact Hn
    isplitl [HO]; · iexact HO
    isplitl [Ht1]; · iexact Ht1
    isplitr; · iexact Hr1
    isplitl [Ht2]; · iexact Ht2
    iexact Hr2
  iintro ⟨Hcs, HO⟩
  rw [wp_ret]; imodintro
  iapply Hk
  isplitr [HO]
  · isplitl [Hp1]; · iexact Hp1
    isplitl [Hcs]; · iexact Hcs
    isplitl [Hp2] <;> iassumption
  iexists W; iexact HO

/-- A running sum arrives. -/
theorem wp_rsRecv (c : Dev nD) (r : Fin 7) (i : ℕ) (hl : ∀ p ∈ (evs c).drop i, p.1.1.2 = .tc ∧ lvS (.dma (dsem (kRR r))) < lvS p.1.2)
    (Q : Vec F S1x256x1024 .bf16 → sProp 𝕄) :
    iprop(facts m K ∗ rSnt c r ∗ Ow c i) ⊢ iprop(((rGot m c r ∗ Ow c i) -∗ Q (sendVal (RS m r.val (prv c)))) -∗ WP c (rsRecv r) Q) := by
  unfold rsRecv rSnt rGot
  rw [show WP c (_ >>= _) Q = _ from wp_bind _ _ _ _ _ _]
  iintro ⟨#HF, ⟨Hp1, Hc1, Hp2, Hc2⟩, HO⟩ Hk
  iapply (wp_dwait m K c (kRR r) i (fun K => (wpE_waitDma2_eq (dst := slotR (off7 r) (off7_inb r)) 𝒱₀ (c : Thread nD τ) none Set.univ K).trans rfl) hl) $$ [Hc2 HO Hp2]
  · isplitr; · iexact HF
    isplitl [Hc2]; · iexact Hc2
    isplitl [HO] <;> iassumption
  iintro ⟨HO, Hz, Hpay⟩
  ihave Hpay := (Entails.of_eq (pay_RR m c r)) $$ Hpay
  unfold rPts Prog.lift
  iapply (wp_load 𝒱₀ (c : Thread nD τ) none Set.univ (m := rbM) (S := rSet r.val)
    (by rw [show (rbM : Memref sig .tc .vmem S7x256x1024 .bf16).view.setOn (Rect.unit (s := S7x256x1024) (off7 r) S1x256x1024.size (off7_inb r)).toLoadRect.set = (Rect.unit (s := S7x256x1024) (off7 r) S1x256x1024.size (off7_inb r)).set from map_refl_set _]
        exact (rect7_set r).subset)) $$ Hpay
  iintro Hpay
  rw [readR, wp_ret]; imodintro
  iapply Hk
  isplitr [HO]
  · isplitl [Hp1]; · iexact Hp1
    isplitl [Hc1]; · iexact Hc1
    isplitl [Hz] <;> iassumption
  iexact HO

/-- A sent running sum has left. -/
theorem wp_rsWait (c : Dev nD) (r : Fin 7) (i : ℕ) (hl : ∀ p ∈ (evs c).drop i, p.1.1.2 = .tc ∧ lvS (.dma (dsem (kRS r))) < lvS p.1.2)
    (Q : PUnit → sProp 𝕄) :
    iprop(facts m K ∗ rGot m c r ∗ Ow c i) ⊢ iprop(((rOut m c r ∗ Ow c i) -∗ Q ⟨⟩) -∗ WP c (rsWait r) Q) := by
  unfold rsWait rGot rOut
  iintro ⟨#HF, ⟨Hp1, Hc1, Hz2, Hr⟩, HO⟩ Hk
  iapply (wp_dwait m K c (kRS r) i (fun K => (wpE_waitDma2_eq (dst := slotS (off7 r) (off7_inb r)) 𝒱₀ (c : Thread nD τ) none Set.univ K).trans rfl) hl) $$ [Hc1 HO Hp1]
  · isplitr; · iexact HF
    isplitl [Hc1]; · iexact Hc1
    isplitl [HO] <;> iassumption
  iintro ⟨HO, Hz, Hpay⟩
  ihave Hpay := (Entails.of_eq (pay_RS m c r)) $$ Hpay
  iapply Hk
  isplitr [HO]
  · isplitl [Hz]; · iexact Hz
    isplitl [Hz2]; · iexact Hz2
    isplitl [Hpay] <;> iassumption
  iexact HO

theorem owRS (c : Dev nD) (r : Fin 7) : ow c (9 + r.val) = ow c (9 + r.val + 1) + tallyAt (dcell (nxt c) (kRR r)) () N := by
  fin_cases r <;> rfl
theorem hlRR (c : Dev nD) (r : Fin 7) : ∀ p ∈ (evs c).drop (10 + r.val), p.1.1.2 = .tc ∧ lvS (.dma (dsem (kRR r))) < lvS p.1.2 := by
  revert c r; decide

/-- A middle step: the partial result, the sum received, the sum sent on. -/
theorem wp_rsMid (c n : Dev nD) (hn : n = nxt c) (s : Fin 6) (Q : PUnit → sProp 𝕄) :
    iprop(facts m K ∗ qkvFull m c ∗ rSnt c (Fin.castSucc s) ∗ rIn c s.succ ∗ Ow c (10 + s.val))
      ⊢ iprop(((qkvFull m c ∗ rGot m c (Fin.castSucc s) ∗ rSnt c s.succ ∗ Ow c (10 + s.val + 1)) -∗ Q ⟨⟩) -∗ WP c (rsMid c s n (WO m c)) Q) := by
  unfold rsMid
  simp only [wp_bind]
  iintro ⟨#HF, Hq, Hs, Hi, HO⟩ Hk
  iapply (wp_psum m c _) $$ Hq
  iintro Hq
  iapply (wp_rsRecv m K c (Fin.castSucc s) (10 + s.val) (hlRR c (Fin.castSucc s))) $$ [Hs HO]
  · isplitr; · iexact HF
    isplitl [Hs] <;> iassumption
  iintro ⟨Hg, HO⟩
  iapply (wp_rsSend m K c n hn s.succ (10 + s.val) (by have := owRS c s.succ; rw [show 9 + s.succ.val = 10 + s.val by (have := Fin.val_succ s; omega)] at this; exact this) _
    (by rw [Fin.val_succ, RS_succ m c s.val (by omega)]; rfl)) $$ [Hi HO]
  · isplitr; · iexact HF
    isplitl [Hi] <;> iassumption
  iintro ⟨Hs, HO⟩
  iapply Hk
  isplitl [Hq]; · iexact Hq
  isplitl [Hg]; · iexact Hg
  isplitl [Hs] <;> iassumption

end Cert.RingProof
-- ==== Proof.Parts.lean ====
/-
The kernel's body on one device: the opening signals and loads, the gather, the reduce-scatter.
-/
module

public import proofs.«01_k».proof.Proof.Hops

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Option (Fin 28) → ℕ)

/-! ## The opening -/

theorem hl_bar (c : Dev nD) : ∀ p ∈ (evs c).drop 2, p.1.1.2 = .tc ∧ lvS (.reg barS) < lvS p.1.2 := by revert c; decide

set_option maxHeartbeats 1000000 in
/-- The handshake with both neighbours. -/
theorem wp_prologue (c n1 n2 : Dev nD) (h1 : n1 = prv c) (h2 : n2 = nxt c) (Q : PUnit → sProp 𝕄) :
    iprop(facts m K ∗ giveL c ∗ giveR c ∗ dutyTok ER (barCell (prv c)) 0 true ∗ dutyTok ER (barCell (nxt c)) 0 false
        ∗ atPos ER (barCell c) 0 ∅ 0 ∗ cred (tallyAt (barCell c) () 2) ∗ Ow c 0)
      ⊢ iprop(((semVal (barCell c) 0 ∗ giveR (prv c) ∗ giveL (nxt c) ∗ Ow c 2) -∗ Q ⟨⟩) -∗ WP c (prologue c n1 n2) Q) := by
  subst h1 h2
  unfold prologue Ow
  simp only [semSignalWord, semWaitWord, Prog.lift, Prog.bind_op, Prog.bind_ret, Prog.pure_eq_ret]
  iintro ⟨#HF, HgL, HgR, Ht1, Ht2, Hat, Hc, ⟨%W, HO⟩⟩ Hk
  ihave #Hi1 := (facts_inv m K (prv c, none)) $$ HF
  ihave #Hi2 := (facts_inv m K (nxt c, none)) $$ HF
  ihave #Hi0 := (facts_inv m K (c, none)) $$ HF
  ihave #Hr1 := (facts_reached m K (prv c, none)) $$ HF
  ihave #Hr2 := (facts_reached m K (nxt c, none)) $$ HF
  iapply (Rounds.wp_signal 𝒱₀ ER (ringRd m) (c : Thread nD τ) none (dst := (prv c : Thread nD τ)) (κ := K (prv c, none))
      (d := true) (by rw [duties_bar]; exact Finset.mem_univ _) ((amount_bar m (prv c) true).trans (by decide)) () (ow c 1) rfl)
    $$ [HO Ht1 HgL]
  · isplitr; · iexact Hi1
    isplitl [HO]; · iexact HO
    isplitl [Ht1]; · iexact Ht1
    isplitl [HgL]; · rw [payload_bar_true, nxt_prv]; iexact HgL
    iexact Hr1
  iintro HO
  iapply (Rounds.wp_signal 𝒱₀ ER (ringRd m) (c : Thread nD τ) none (dst := (nxt c : Thread nD τ)) (κ := K (nxt c, none))
      (d := false) (by rw [duties_bar]; exact Finset.mem_univ _) ((amount_bar m (nxt c) false).trans (by decide)) () (ow c 2) rfl)
    $$ [HO Ht2 HgR]
  · isplitr; · iexact Hi2
    isplitl [HO]; · iexact HO
    isplitl [Ht2]; · iexact Ht2
    isplitl [HgR]; · rw [payload_bar_false, prv_nxt]; iexact HgR
    iexact Hr2
  iintro HO
  iapply (Rounds.wp_wait_rest_token 𝒱₀ ER (ringRd m) (c : Thread nD τ) none (κ := K (c, none))
      (wpE_semWait_eq 𝒱₀ (c : Thread nD τ) none Set.univ) (Set.mem_univ _) () (O := ow c 2) (W := W) (R := 0) (m := 0) (T := ∅)
      (by rw [expect_bar]; decide)) $$ [Hc HO Hat]
  · isplitr; · iexact Hi0
    isplitl [Hc]; · iexact Hc
    isplitl [HO]; · iexact HO
    isplitr
    · iapply (mayWait c (.reg barS) ((evs c).drop 2) (hl_bar c))
      iapply (facts_lev m K); iexact HF
    iexact Hat
  iintro ⟨HO, Hat, -, Hpay⟩
  ihave Hp := (Entails.of_eq (rest_bar m c)) $$ Hpay
  icases Hp with ⟨HgR, HgL⟩
  rw [wp_ret]
  imod (Rounds.cell_close ER (ringRd m) (Set.mem_univ (K (c, none))) (fun h => h) (R := 0 + 1) (duties_later m (barCell c))) $$ [Hat] with Hz
  · isplitr; · iexact Hi0
    iexact Hat
  imodintro
  iapply Hk
  isplitl [Hz]; · iexact Hz
  isplitl [HgR]; · iexact HgR
  isplitl [HgL]; · iexact HgL
  iexists _; iexact HO

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer held whole. -/
abbrev held (c : Dev nD) (b : Ref sig .tc) (f : Buf (Elt F) ((c : Thread nD τ).loc b)) : sProp 𝕄 := (((c : Thread nD τ).loc b) ↦{fullShare} f)

/-- The weights and `x` are loaded from their windows. -/
theorem wp_loadWq (c : Dev nD) (Q : Vec F S1024x1024 .bf16 → sProp 𝕄) :
    held c cc0_stg1_0 (wqS m c) ⊢ iprop((held c cc0_stg1_0 (wqS m c) -∗ Q (wqS m c)) -∗ WP c (loadW wqM) Q) := by
  unfold loadW Prog.lift
  iintro H HK
  iapply (wp_load 𝒱₀ (c : Thread nD τ) none Set.univ (m := wqM) (Finset.subset_univ _)) $$ H
  iintro H
  rw [wp_ret, show (wqM : Memref sig .tc .vmem S1024x1024 .bf16).view.readAt (Elt F) (Rect.unit (s := S1024x1024) ![0, 0] S1024x1024.size inb_S1024x1024_S1024x1024_0_0).toLoadRect (wqS m c) = wqS m c from Memref.readAt_unit_zero (Elt F) cc0_stg1_0 hz2 _ _]
  imodintro
  iapply HK; iexact H
theorem wp_loadWo (c : Dev nD) (Q : Vec F S1024x1024 .bf16 → sProp 𝕄) :
    held c cc0_stg2_0 (woS m c) ⊢ iprop((held c cc0_stg2_0 (woS m c) -∗ Q (woS m c)) -∗ WP c (loadW woM) Q) := by
  unfold loadW Prog.lift
  iintro H HK
  iapply (wp_load 𝒱₀ (c : Thread nD τ) none Set.univ (m := woM) (Finset.subset_univ _)) $$ H
  iintro H
  rw [wp_ret, show (woM : Memref sig .tc .vmem S1024x1024 .bf16).view.readAt (Elt F) (Rect.unit (s := S1024x1024) ![0, 0] S1024x1024.size inb_S1024x1024_S1024x1024_0_0).toLoadRect (woS m c) = woS m c from Memref.readAt_unit_zero (Elt F) cc0_stg2_0 hz2 _ _]
  imodintro
  iapply HK; iexact H
theorem wp_loadWk (c : Dev nD) (Q : Vec F S1024x1024 .bf16 → sProp 𝕄) :
    held c cc0_stg3_0 (wkS m c) ⊢ iprop((held c cc0_stg3_0 (wkS m c) -∗ Q (wkS m c)) -∗ WP c (loadW wkM) Q) := by
  unfold loadW Prog.lift
  iintro H HK
  iapply (wp_load 𝒱₀ (c : Thread nD τ) none Set.univ (m := wkM) (Finset.subset_univ _)) $$ H
  iintro H
  rw [wp_ret, show (wkM : Memref sig .tc .vmem S1024x1024 .bf16).view.readAt (Elt F) (Rect.unit (s := S1024x1024) ![0, 0] S1024x1024.size inb_S1024x1024_S1024x1024_0_0).toLoadRect (wkS m c) = wkS m c from Memref.readAt_unit_zero (Elt F) cc0_stg3_0 hz2 _ _]
  imodintro
  iapply HK; iexact H
theorem wp_loadWv (c : Dev nD) (Q : Vec F S1024x1024 .bf16 → sProp 𝕄) :
    held c cc0_stg4_0 (wvS m c) ⊢ iprop((held c cc0_stg4_0 (wvS m c) -∗ Q (wvS m c)) -∗ WP c (loadW wvM) Q) := by
  unfold loadW Prog.lift
  iintro H HK
  iapply (wp_load 𝒱₀ (c : Thread nD τ) none Set.univ (m := wvM) (Finset.subset_univ _)) $$ H
  iintro H
  rw [wp_ret, show (wvM : Memref sig .tc .vmem S1024x1024 .bf16).view.readAt (Elt F) (Rect.unit (s := S1024x1024) ![0, 0] S1024x1024.size inb_S1024x1024_S1024x1024_0_0).toLoadRect (wvS m c) = wvS m c from Memref.readAt_unit_zero (Elt F) cc0_stg4_0 hz2 _ _]
  imodintro
  iapply HK; iexact H
theorem wp_loadX (c : Dev nD) (Q : Vec F S1x256x1024 .bf16 → sProp 𝕄) :
    held c cc0_stg0_0 (xS m c) ⊢ iprop((held c cc0_stg0_0 (xS m c) -∗ Q (xS m c)) -∗ WP c loadX Q) := by
  unfold loadX Prog.lift
  iintro H HK
  iapply (wp_load 𝒱₀ (c : Thread nD τ) none Set.univ (m := xM) (Finset.subset_univ _)) $$ H
  iintro H
  rw [wp_ret, show (xM : Memref sig .tc .vmem S1x256x1024 .bf16).view.readAt (Elt F) (Rect.unit (s := S1x256x1024) ![0, 0, 0] S1x256x1024.size inb_S1x256x1024_S1x256x1024_0_0_0).toLoadRect (xS m c) = xS m c from Memref.readAt_unit_zero (Elt F) cc0_stg0_0 hz3 _ _]
  imodintro
  iapply HK; iexact H

/-- The result is stored. -/
theorem wp_putOut (c : Dev nD) (p : FVec F S256x1024 .f32) (Q : PUnit → sProp 𝕄) :
    iprop(∃ f, held c cc0_stg5_0 f) ⊢ iprop((held c cc0_stg5_0 (k0_pay128 p : (cc0_stg5_0 : Ref sig .tc).ty.Contents (Elt F)) -∗ Q ⟨⟩) -∗ WP c (putOut p) Q) := by
  unfold putOut Prog.lift
  iintro ⟨%f, H⟩ HK
  iapply (wp_load 𝒱₀ (c : Thread nD τ) none Set.univ (m := oM) (Finset.subset_univ _)) $$ H
  iintro H
  iapply (wp_store 𝒱₀ (c : Thread nD τ) none Set.univ (m := oM) (r := Rect.unit (s := S1x256x1024) ![0, 0, 0] S1x256x1024.size inb_S1x256x1024_S1x256x1024_0_0_0) (Mk := Finset.univ) (Finset.subset_univ _)) $$ H
  iintro H
  rw [wp_ret, show ((oM : Memref sig .tc .vmem S1x256x1024 .f32).access (Rect.unit (s := S1x256x1024) ![0, 0, 0] S1x256x1024.size inb_S1x256x1024_S1x256x1024_0_0_0) : View sig .tc _ _ _).write (Elt F) f (k0_pay128 p) Finset.univ = k0_pay128 p from Memref.write_access_unit_zero_univ (Elt F) cc0_stg5_0 hz3 _ f _]
  imodintro
  iapply HK; iexact H

/-! ## The gather -/

/-- The seven hops and the device's own block are all eight blocks. -/
theorem all_blocks (c : Dev nD) : (insert (bsl c 4) (insert (bsl c 3) (insert (fsl c 3) (insert (bsl c 2) (insert (fsl c 2) (insert (bsl c 1) (insert (fsl c 1) (insert c (∅ : Finset (Dev nD))))))))) : Finset (Dev nD)) = Finset.univ := by
  revert c; decide
theorem fsl_zero (c : Dev nD) : fsl c (0 : Fin 3).val = c := by revert c; decide
theorem bsl_zero (c : Dev nD) : bsl c (0 : Fin 4).val = c := by revert c; decide

/-- Every block of the gather buffer, in halves. -/
def xHalves (c : Dev nD) : sProp 𝕄 :=
  iprop((xPts c c shL (GX m) ∗ xPts c c shR (GX m))
    ∗ (xPts c (fsl c 1) shL (GX m) ∗ xPts c (fsl c 1) shR (GX m)) ∗ (xPts c (fsl c 2) shL (GX m) ∗ xPts c (fsl c 2) shR (GX m)) ∗ (xPts c (fsl c 3) shL (GX m) ∗ xPts c (fsl c 3) shR (GX m))
    ∗ (xPts c (bsl c 1) shL (GX m) ∗ xPts c (bsl c 1) shR (GX m)) ∗ (xPts c (bsl c 2) shL (GX m) ∗ xPts c (bsl c 2) shR (GX m))
    ∗ (xPts c (bsl c 3) shL (GX m) ∗ xPts c (bsl c 3) shR (GX m)) ∗ (xPts c (bsl c 4) shL (GX m) ∗ xPts c (bsl c 4) shR (GX m)))

def fZero (c : Dev nD) (r : Fin 3) : sProp 𝕄 := iprop(Zero c (kFS r) ∗ Zero c (kFR r))
def bZero (c : Dev nD) (r : Fin 4) : sProp 𝕄 := iprop(Zero c (kBS r) ∗ Zero c (kBR r))

theorem hlFR0 (c : Dev nD) : ∀ p ∈ (evs c).drop 4, p.1.1.2 = .tc ∧ lvS (.dma (dsem (kFR 0))) < lvS p.1.2 := by revert c; decide
theorem hlBR0 (c : Dev nD) : ∀ p ∈ (evs c).drop 5, p.1.1.2 = .tc ∧ lvS (.dma (dsem (kBR 0))) < lvS p.1.2 := by revert c; decide
theorem hlFR1 (c : Dev nD) : ∀ p ∈ (evs c).drop 6, p.1.1.2 = .tc ∧ lvS (.dma (dsem (kFR 1))) < lvS p.1.2 := by revert c; decide
theorem hlBR1 (c : Dev nD) : ∀ p ∈ (evs c).drop 7, p.1.1.2 = .tc ∧ lvS (.dma (dsem (kBR 1))) < lvS p.1.2 := by revert c; decide
theorem hlFR2 (c : Dev nD) : ∀ p ∈ (evs c).drop 8, p.1.1.2 = .tc ∧ lvS (.dma (dsem (kFR 2))) < lvS p.1.2 := by revert c; decide
theorem hlBR2 (c : Dev nD) : ∀ p ∈ (evs c).drop 8, p.1.1.2 = .tc ∧ lvS (.dma (dsem (kBR 2))) < lvS p.1.2 := by revert c; decide
theorem hlBR3 (c : Dev nD) : ∀ p ∈ (evs c).drop 9, p.1.1.2 = .tc ∧ lvS (.dma (dsem (kBR 3))) < lvS p.1.2 := by revert c; decide
theorem hlFS (c : Dev nD) (r : Fin 3) : ∀ p ∈ (evs c).drop 9, p.1.1.2 = .tc ∧ lvS (.dma (dsem (kFS r))) < lvS p.1.2 := by revert c r; decide
theorem hlBS (c : Dev nD) (r : Fin 4) : ∀ p ∈ (evs c).drop 9, p.1.1.2 = .tc ∧ lvS (.dma (dsem (kBS r))) < lvS p.1.2 := by revert c r; decide
theorem hlRS (c : Dev nD) (r : Fin 7) : ∀ p ∈ (evs c).drop 16, p.1.1.2 = .tc ∧ lvS (.dma (dsem (kRS r))) < lvS p.1.2 := by revert c r; decide

set_option maxHeartbeats 4000000 in
/-- The gather of `x`, with the projections in between. -/
theorem wp_gather (c : Dev nD) (Q : PUnit → sProp 𝕄) :
    iprop(facts m K ∗ xPts c c fullShare (GX m) ∗ qkv m c ∅ ∗ fIn c 0 ∗ fIn c 1 ∗ fIn c 2 ∗ bIn c 0 ∗ bIn c 1 ∗ bIn c 2 ∗ bIn c 3 ∗ Ow c 2)
      ⊢ iprop(((xHalves m c ∗ qkvFull m c ∗ (fZero c 0 ∗ fZero c 1 ∗ fZero c 2) ∗ (bZero c 0 ∗ bZero c 1 ∗ bZero c 2 ∗ bZero c 3) ∗ Ow c 9) -∗ Q ⟨⟩) -∗ WP c (gather c (W3 m c) (xS m c)) Q) := by
  unfold gather
  simp only [wp_bind]
  iintro ⟨#HF, Hx, Hq, Hf0, Hf1, Hf2, Hb0, Hb1, Hb2, Hb3, HO⟩ Hk
  ihave Hx := (Entails.of_eq (xPts_half c _ _)) $$ Hx
  icases Hx with ⟨HxL, HxR⟩
  iapply (wp_hopF m K c _ (dev3_eq c) 0 2 rfl) $$ [HxL Hf0 HO]
  · rw [fsl_zero]
    isplitr; · iexact HF
    isplitl [HxL]; · iexact HxL
    isplitl [Hf0] <;> iassumption
  iintro ⟨Hf0, HO⟩
  iapply (wp_hopB m K c _ (dev4_eq c) 0 3 rfl) $$ [HxR Hb0 HO]
  · rw [bsl_zero]
    isplitr; · iexact HF
    isplitl [HxR]; · iexact HxR
    isplitl [Hb0] <;> iassumption
  iintro ⟨Hb0, HO⟩
  iapply (wp_project m c c ∅ _ (off4_eq c)) $$ Hq
  iintro Hq
  iapply (wp_recvF m K c 0 4 (hlFR0 c)) $$ [Hf0 HO]
  · isplitr; · iexact HF
    isplitl [Hf0] <;> iassumption
  iintro ⟨Hf0, Hzf0, Hxf1L, Hxf1R, HO⟩
  iapply (wp_hopF m K c _ (dev5_eq c) 1 4 rfl) $$ [Hxf1L Hf1 HO]
  · isplitr; · iexact HF
    isplitl [Hxf1L]; · iexact Hxf1L
    isplitl [Hf1] <;> iassumption
  iintro ⟨Hf1, HO⟩
  iapply (wp_recvB m K c 0 5 (hlBR0 c)) $$ [Hb0 HO]
  · isplitr; · iexact HF
    isplitl [Hb0] <;> iassumption
  iintro ⟨Hb0, Hzb0, Hxb1L, Hxb1R, HO⟩
  iapply (wp_hopB m K c _ (dev6_eq c) 1 5 rfl) $$ [Hxb1L Hb1 HO]
  · isplitr; · iexact HF
    isplitl [Hxb1L]; · iexact Hxb1L
    isplitl [Hb1] <;> iassumption
  iintro ⟨Hb1, HO⟩
  iapply (wp_projF m c 0) $$ [Hxf1R Hq]
  · isplitl [Hxf1R] <;> iassumption
  iintro ⟨Hxf1R, Hq⟩
  iapply (wp_projB m c 0) $$ [Hxb1R Hq]
  · isplitl [Hxb1R] <;> iassumption
  iintro ⟨Hxb1R, Hq⟩
  iapply (wp_recvF m K c 1 6 (hlFR1 c)) $$ [Hf1 HO]
  · isplitr; · iexact HF
    isplitl [Hf1] <;> iassumption
  iintro ⟨Hf1, Hzf1, Hxf2L, Hxf2R, HO⟩
  iapply (wp_hopF m K c _ (dev7_eq c) 2 6 rfl) $$ [Hxf2L Hf2 HO]
  · isplitr; · iexact HF
    isplitl [Hxf2L]; · iexact Hxf2L
    isplitl [Hf2] <;> iassumption
  iintro ⟨Hf2, HO⟩
  iapply (wp_recvB m K c 1 7 (hlBR1 c)) $$ [Hb1 HO]
  · isplitr; · iexact HF
    isplitl [Hb1] <;> iassumption
  iintro ⟨Hb1, Hzb1, Hxb2L, Hxb2R, HO⟩
  iapply (wp_hopB m K c _ (dev8_eq c) 2 7 rfl) $$ [Hxb2L Hb2 HO]
  · isplitr; · iexact HF
    isplitl [Hxb2L]; · iexact Hxb2L
    isplitl [Hb2] <;> iassumption
  iintro ⟨Hb2, HO⟩
  iapply (wp_projF m c 1) $$ [Hxf2R Hq]
  · isplitl [Hxf2R] <;> iassumption
  iintro ⟨Hxf2R, Hq⟩
  iapply (wp_projB m c 1) $$ [Hxb2R Hq]
  · isplitl [Hxb2R] <;> iassumption
  iintro ⟨Hxb2R, Hq⟩
  iapply (wp_recvF m K c 2 8 (hlFR2 c)) $$ [Hf2 HO]
  · isplitr; · iexact HF
    isplitl [Hf2] <;> iassumption
  iintro ⟨Hf2, Hzf2, Hxf3L, Hxf3R, HO⟩
  iapply (wp_recvB m K c 2 8 (hlBR2 c)) $$ [Hb2 HO]
  · isplitr; · iexact HF
    isplitl [Hb2] <;> iassumption
  iintro ⟨Hb2, Hzb2, Hxb3L, Hxb3R, HO⟩
  iapply (wp_hopB m K c _ (dev9_eq c) 3 8 rfl) $$ [Hxb3L Hb3 HO]
  · isplitr; · iexact HF
    isplitl [Hxb3L]; · iexact Hxb3L
    isplitl [Hb3] <;> iassumption
  iintro ⟨Hb3, HO⟩
  iapply (wp_projF m c 2) $$ [Hxf3R Hq]
  · isplitl [Hxf3R] <;> iassumption
  iintro ⟨Hxf3R, Hq⟩
  iapply (wp_projB m c 2) $$ [Hxb3R Hq]
  · isplitl [Hxb3R] <;> iassumption
  iintro ⟨Hxb3R, Hq⟩
  iapply (wp_recvB m K c 3 9 (hlBR3 c)) $$ [Hb3 HO]
  · isplitr; · iexact HF
    isplitl [Hb3] <;> iassumption
  iintro ⟨Hb3, Hzb3, Hxb4L, Hxb4R, HO⟩
  iapply (wp_projB m c 3) $$ [Hxb4R Hq]
  · isplitl [Hxb4R] <;> iassumption
  iintro ⟨Hxb4R, Hq⟩
  iapply (wp_sentF m K c 0 9 (hlFS c 0)) $$ [Hf0 HO]
  · isplitr; · iexact HF
    isplitl [Hf0] <;> iassumption
  iintro ⟨Hyf0, HxL, HO⟩
  iapply (wp_sentF m K c 1 9 (hlFS c 1)) $$ [Hf1 HO]
  · isplitr; · iexact HF
    isplitl [Hf1] <;> iassumption
  iintro ⟨Hyf1, Hxf1L, HO⟩
  iapply (wp_sentF m K c 2 9 (hlFS c 2)) $$ [Hf2 HO]
  · isplitr; · iexact HF
    isplitl [Hf2] <;> iassumption
  iintro ⟨Hyf2, Hxf2L, HO⟩
  iapply (wp_sentB m K c 0 9 (hlBS c 0)) $$ [Hb0 HO]
  · isplitr; · iexact HF
    isplitl [Hb0] <;> iassumption
  iintro ⟨Hyb0, HxR, HO⟩
  iapply (wp_sentB m K c 1 9 (hlBS c 1)) $$ [Hb1 HO]
  · isplitr; · iexact HF
    isplitl [Hb1] <;> iassumption
  iintro ⟨Hyb1, Hxb1L, HO⟩
  iapply (wp_sentB m K c 2 9 (hlBS c 2)) $$ [Hb2 HO]
  · isplitr; · iexact HF
    isplitl [Hb2] <;> iassumption
  iintro ⟨Hyb2, Hxb2L, HO⟩
  iapply (wp_sentB m K c 3 9 (hlBS c 3)) $$ [Hb3 HO]
  · isplitr; · iexact HF
    isplitl [Hb3] <;> iassumption
  iintro ⟨Hyb3, Hxb3L, HO⟩
  iapply Hk
  unfold xHalves fZero bZero
  isplitl [HxL HxR Hxf1L Hxf1R Hxf2L Hxf2R Hxf3L Hxf3R Hxb1L Hxb1R Hxb2L Hxb2R Hxb3L Hxb3R Hxb4L Hxb4R]
  · isplitl [HxL HxR]
    · rw [fsl_zero, bsl_zero]
      isplitl [HxL]; · iexact HxL
      iexact HxR
    isplitl [Hxf1L Hxf1R]
    · isplitl [Hxf1L]; · iexact Hxf1L
      iexact Hxf1R
    isplitl [Hxf2L Hxf2R]
    · isplitl [Hxf2L]; · iexact Hxf2L
      iexact Hxf2R
    isplitl [Hxf3L Hxf3R]
    · isplitl [Hxf3L]; · iexact Hxf3L
      iexact Hxf3R
    isplitl [Hxb1L Hxb1R]
    · isplitl [Hxb1L]; · iexact Hxb1L
      iexact Hxb1R
    isplitl [Hxb2L Hxb2R]
    · isplitl [Hxb2L]; · iexact Hxb2L
      iexact Hxb2R
    isplitl [Hxb3L Hxb3R]
    · isplitl [Hxb3L]; · iexact Hxb3L
      iexact Hxb3R
    isplitl [Hxb4L]; · iexact Hxb4L
    iexact Hxb4R
  isplitl [Hq]
  · iapply (qkv_full m c)
    iapply (Entails.of_eq (congrArg (qkv m c) (all_blocks c))); iexact Hq
  isplitl [Hzf0 Hzf1 Hzf2 Hyf0 Hyf1 Hyf2]
  · isplitl [Hzf0 Hyf0]
    · isplitl [Hyf0] <;> iassumption
    isplitl [Hzf1 Hyf1]
    · isplitl [Hyf1] <;> iassumption
    isplitl [Hyf2] <;> iassumption
  isplitl [Hzb0 Hzb1 Hzb2 Hzb3 Hyb0 Hyb1 Hyb2 Hyb3]
  · isplitl [Hzb0 Hyb0]
    · isplitl [Hyb0] <;> iassumption
    isplitl [Hzb1 Hyb1]
    · isplitl [Hyb1] <;> iassumption
    isplitl [Hzb2 Hyb2]
    · isplitl [Hyb2] <;> iassumption
    isplitl [Hyb3] <;> iassumption
  iexact HO

/-! ## The reduce-scatter -/

set_option maxHeartbeats 4000000 in
/-- The eight steps of attention and the running sums. -/
theorem wp_scatter (c : Dev nD) (Q : PUnit → sProp 𝕄) :
    iprop(facts m K ∗ qkvFull m c ∗ (∃ f, held c cc0_stg5_0 f) ∗ rIn c 0 ∗ rIn c 1 ∗ rIn c 2 ∗ rIn c 3 ∗ rIn c 4 ∗ rIn c 5 ∗ rIn c 6 ∗ Ow c 9)
      ⊢ iprop(((qkvFull m c ∗ held c cc0_stg5_0 (OUT m c) ∗ (rOut m c 0 ∗ rOut m c 1 ∗ rOut m c 2 ∗ rOut m c 3 ∗ rOut m c 4 ∗ rOut m c 5 ∗ rOut m c 6) ∗ Ow c 16) -∗ Q ⟨⟩) -∗ WP c (scatter c (WO m c)) Q) := by
  unfold scatter rsFirst rsLast
  simp only [wp_bind]
  iintro ⟨#HF, Hq, Ho, H0, H1, H2, H3, H4, H5, H6, HO⟩ Hk
  iapply (wp_psum m c 0) $$ Hq
  iintro Hq
  iapply (wp_rsSend m K c _ (dev10_eq c) 0 9 (owRS c 0) _ rfl) $$ [H0 HO]
  · isplitr; · iexact HF
    isplitl [H0] <;> iassumption
  iintro ⟨H0, HO⟩
  iapply (wp_rsMid m K c _ (dev11_eq c) 0) $$ [Hq H0 H1 HO]
  · isplitr; · iexact HF
    isplitl [Hq]; · iexact Hq
    isplitl [H0]; · iexact H0
    isplitl [H1]; · iexact H1
    iexact HO
  iintro ⟨Hq, H0, H1, HO⟩
  iapply (wp_rsMid m K c _ (dev12_eq c) 1) $$ [Hq H1 H2 HO]
  · isplitr; · iexact HF
    isplitl [Hq]; · iexact Hq
    isplitl [H1]; · iexact H1
    isplitl [H2]; · iexact H2
    iexact HO
  iintro ⟨Hq, H1, H2, HO⟩
  iapply (wp_rsMid m K c _ (dev13_eq c) 2) $$ [Hq H2 H3 HO]
  · isplitr; · iexact HF
    isplitl [Hq]; · iexact Hq
    isplitl [H2]; · iexact H2
    isplitl [H3]; · iexact H3
    iexact HO
  iintro ⟨Hq, H2, H3, HO⟩
  iapply (wp_rsMid m K c _ (dev14_eq c) 3) $$ [Hq H3 H4 HO]
  · isplitr; · iexact HF
    isplitl [Hq]; · iexact Hq
    isplitl [H3]; · iexact H3
    isplitl [H4]; · iexact H4
    iexact HO
  iintro ⟨Hq, H3, H4, HO⟩
  iapply (wp_rsMid m K c _ (dev15_eq c) 4) $$ [Hq H4 H5 HO]
  · isplitr; · iexact HF
    isplitl [Hq]; · iexact Hq
    isplitl [H4]; · iexact H4
    isplitl [H5]; · iexact H5
    iexact HO
  iintro ⟨Hq, H4, H5, HO⟩
  iapply (wp_rsMid m K c _ (dev16_eq c) 5) $$ [Hq H5 H6 HO]
  · isplitr; · iexact HF
    isplitl [Hq]; · iexact Hq
    isplitl [H5]; · iexact H5
    isplitl [H6]; · iexact H6
    iexact HO
  iintro ⟨Hq, H5, H6, HO⟩
  iapply (wp_psum m c 7) $$ Hq
  iintro Hq
  iapply (wp_rsRecv m K c 6 16 (hlRR c 6)) $$ [H6 HO]
  · isplitr; · iexact HF
    isplitl [H6]; · iexact H6
    iexact HO
  iintro ⟨H6, HO⟩
  iapply (wp_putOut c) $$ Ho
  iintro Ho
  iapply (wp_rsWait m K c 0 16 (hlRS c 0)) $$ [H0 HO]
  · isplitr; · iexact HF
    isplitl [H0]; · iexact H0
    iexact HO
  iintro ⟨H0, HO⟩
  iapply (wp_rsWait m K c 1 16 (hlRS c 1)) $$ [H1 HO]
  · isplitr; · iexact HF
    isplitl [H1]; · iexact H1
    iexact HO
  iintro ⟨H1, HO⟩
  iapply (wp_rsWait m K c 2 16 (hlRS c 2)) $$ [H2 HO]
  · isplitr; · iexact HF
    isplitl [H2]; · iexact H2
    iexact HO
  iintro ⟨H2, HO⟩
  iapply (wp_rsWait m K c 3 16 (hlRS c 3)) $$ [H3 HO]
  · isplitr; · iexact HF
    isplitl [H3]; · iexact H3
    iexact HO
  iintro ⟨H3, HO⟩
  iapply (wp_rsWait m K c 4 16 (hlRS c 4)) $$ [H4 HO]
  · isplitr; · iexact HF
    isplitl [H4]; · iexact H4
    iexact HO
  iintro ⟨H4, HO⟩
  iapply (wp_rsWait m K c 5 16 (hlRS c 5)) $$ [H5 HO]
  · isplitr; · iexact HF
    isplitl [H5]; · iexact H5
    iexact HO
  iintro ⟨H5, HO⟩
  iapply (wp_rsWait m K c 6 16 (hlRS c 6)) $$ [H6 HO]
  · isplitr; · iexact HF
    isplitl [H6]; · iexact H6
    iexact HO
  iintro ⟨H6, HO⟩
  iapply Hk
  isplitl [Hq]; · iexact Hq
  isplitl [Ho]; · iexact Ho
  isplitr [HO]
  · isplitl [H0]; · iexact H0
    isplitl [H1]; · iexact H1
    isplitl [H2]; · iexact H2
    isplitl [H3]; · iexact H3
    isplitl [H4]; · iexact H4
    isplitl [H5]; · iexact H5
    iexact H6
  iexact HO

end Cert.RingProof
-- ==== Proof.Body.lean ====
/-
The body run from what the launch hands device `c` to what it hands back: the buffers cut into blocks, the parts of
the body in order, the blocks joined again.
-/
module

public import proofs.«01_k».proof.Proof.Parts
public import proofs.«01_k».proof.Proof.Gen.KernelIdeal.Launch
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Option (Fin 28) → ℕ)

/-! ## Splitting -/

theorem split28 (Φ : Fin 28 → sProp 𝕄) : bigSep Finset.univ Φ = iprop(Φ (kFS 0) ∗ Φ (kFR 0) ∗ Φ (kFS 1) ∗ Φ (kFR 1) ∗ Φ (kFS 2) ∗ Φ (kFR 2) ∗ Φ (kBS 0) ∗ Φ (kBR 0) ∗ Φ (kBS 1) ∗ Φ (kBR 1) ∗ Φ (kBS 2) ∗ Φ (kBR 2) ∗ Φ (kBS 3) ∗ Φ (kBR 3) ∗ Φ (kRS 0) ∗ Φ (kRR 0) ∗ Φ (kRS 1) ∗ Φ (kRR 1) ∗ Φ (kRS 2) ∗ Φ (kRR 2) ∗ Φ (kRS 3) ∗ Φ (kRR 3) ∗ Φ (kRS 4) ∗ Φ (kRR 4) ∗ Φ (kRS 5) ∗ Φ (kRR 5) ∗ Φ (kRS 6) ∗ Φ (kRR 6)) :=
  bigSep_univ_eq_bigSepL [kFS 0, kFR 0, kFS 1, kFR 1, kFS 2, kFR 2, kBS 0, kBR 0, kBS 1, kBR 1, kBS 2, kBR 2, kBS 3, kBR 3, kRS 0, kRR 0, kRS 1, kRR 1, kRS 2, kRR 2, kRS 3, kRR 3, kRS 4, kRR 4, kRS 5, kRR 5, kRS 6, kRR 6] (by decide) (by decide) Φ
theorem split3 (Φ : Fin 3 → sProp 𝕄) : bigSep Finset.univ Φ = iprop(Φ 0 ∗ Φ 1 ∗ Φ 2) := bigSep_univ_eq_bigSepL [0, 1, 2] (by decide) (by decide) Φ
theorem split4 (Φ : Fin 4 → sProp 𝕄) : bigSep Finset.univ Φ = iprop(Φ 0 ∗ Φ 1 ∗ Φ 2 ∗ Φ 3) := bigSep_univ_eq_bigSepL [0, 1, 2, 3] (by decide) (by decide) Φ
theorem split7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem split8 (c : Dev nD) (Φ : Fin 8 → sProp 𝕄) : bigSep Finset.univ Φ
    = iprop(Φ c ∗ Φ (fsl c 1) ∗ Φ (fsl c 2) ∗ Φ (fsl c 3) ∗ Φ (bsl c 1) ∗ Φ (bsl c 2) ∗ Φ (bsl c 3) ∗ Φ (bsl c 4)) :=
  bigSep_univ_eq_bigSepL [c, fsl c 1, fsl c 2, fsl c 3, bsl c 1, bsl c 2, bsl c 3, bsl c 4] (by revert c; decide) (by revert c; decide) Φ

theorem xWhole_disj : ∀ j j' : Fin 8, j ≠ j' → Disjoint (xSet j.val) (xSet j'.val) := fun j j' h =>
  Finset.disjoint_filter.mpr fun i _ h1 h2 => h (Fin.ext (h1.symm.trans h2))
theorem xWhole_union : (Finset.univ.biUnion fun j : Fin 8 => xSet j.val) = Finset.univ := by
  refine Finset.eq_univ_of_forall fun i => Finset.mem_biUnion.mpr ⟨headX i, Finset.mem_univ _, Finset.mem_filter.mpr ⟨Finset.mem_univ _, rfl⟩⟩
theorem xWhole (c : Dev nD) (f : (cc0_scratch0 : Ref sig .tc).ty.Contents (Elt F)) :
    (held c cc0_scratch0 f : sProp 𝕄) = bigSep Finset.univ fun j : Fin 8 => xPts c j fullShare f :=
  Ring.pointsTo_blocks (ℓ := (c : Thread nD τ).loc cc0_scratch0) (q := fullShare) (fun j : Fin 8 => xSet j.val) xWhole_disj xWhole_union f
theorem sWhole_disj : ∀ j j' : Fin 7, j ≠ j' → Disjoint (sSet j.val) (sSet j'.val) := fun j j' h =>
  Finset.disjoint_filter.mpr fun i _ h1 h2 => h (Fin.ext (h1.symm.trans h2))
theorem sWhole_union : (Finset.univ.biUnion fun j : Fin 7 => sSet j.val) = Finset.univ := by
  refine Finset.eq_univ_of_forall fun i => Finset.mem_biUnion.mpr ⟨(show S7x256x1024.Idx from i) 0, Finset.mem_univ _, Finset.mem_filter.mpr ⟨Finset.mem_univ _, rfl⟩⟩
theorem sWhole (c : Dev nD) (f : (cc0_scratch4 : Ref sig .tc).ty.Contents (Elt F)) :
    (held c cc0_scratch4 f : sProp 𝕄) = bigSep Finset.univ fun j : Fin 7 => sPts c j.val f :=
  Ring.pointsTo_blocks (ℓ := (c : Thread nD τ).loc cc0_scratch4) (q := fullShare) (fun j : Fin 7 => sSet j.val) sWhole_disj sWhole_union f
theorem rWhole_disj : ∀ j j' : Fin 7, j ≠ j' → Disjoint (rSet j.val) (rSet j'.val) := fun j j' h =>
  Finset.disjoint_filter.mpr fun i _ h1 h2 => h (Fin.ext (h1.symm.trans h2))
theorem rWhole_union : (Finset.univ.biUnion fun j : Fin 7 => rSet j.val) = Finset.univ := by
  refine Finset.eq_univ_of_forall fun i => Finset.mem_biUnion.mpr ⟨(show S7x256x1024.Idx from i) 0, Finset.mem_univ _, Finset.mem_filter.mpr ⟨Finset.mem_univ _, rfl⟩⟩
theorem rWhole (c : Dev nD) (f : (cc0_scratch5 : Ref sig .tc).ty.Contents (Elt F)) :
    (held c cc0_scratch5 f : sProp 𝕄) = bigSep Finset.univ fun j : Fin 7 => rPts c j.val f :=
  Ring.pointsTo_blocks (ℓ := (c : Thread nD τ).loc cc0_scratch5) (q := fullShare) (fun j : Fin 7 => rSet j.val) rWhole_disj rWhole_union f

/-! ## What a device starts from -/

abbrev TP (c : Dev nD) (k : Fin 28) : sProp 𝕄 := iprop(Tok c k ∗ Pos c k)

/-- The tokens of the duties device `c` pays and its positions; -/
def mine (c : Dev nD) : sProp 𝕄 :=
  iprop((dutyTok ER (barCell (prv c)) 0 true ∗ dutyTok ER (barCell (nxt c)) 0 false ∗ atPos ER (barCell c) 0 ∅ 0)
    ∗ bigSep Finset.univ fun k : Fin 28 => TP c k)
/-- the credits others owe it. -/
def due (c : Dev nD) : sProp 𝕄 :=
  iprop(cred (tallyAt (barCell c) () 2) ∗ (bigSep Finset.univ fun r : Fin 3 => Cr c (kFR r)) ∗ (bigSep Finset.univ fun r : Fin 4 => Cr c (kBR r))
    ∗ bigSep Finset.univ fun r : Fin 7 => Cr c (kRR r))

theorem mk_f (c : Dev nD) (r : Fin 3) :
    iprop((∃ f, xPts (nxt c) (fsl (nxt c) (r.val + 1)) fullShare f) ∗ TP c (kFS r) ∗ TP c (kFR r) ∗ Cr c (kFR r)) ⊢ (fIn c r : sProp 𝕄) := by
  unfold fIn
  rw [fsl_nxt]
  iintro ⟨H, ⟨Ha, Hb⟩, ⟨Hc, Hd⟩, He⟩
  isplitl [H]; · iexact H
  isplitl [Ha]; · iexact Ha
  isplitl [Hc]; · iexact Hc
  isplitl [Hb]; · iexact Hb
  isplitl [Hd] <;> iassumption
theorem mk_b (c : Dev nD) (r : Fin 4) :
    iprop((∃ f, xPts (prv c) (bsl (prv c) (r.val + 1)) fullShare f) ∗ TP c (kBS r) ∗ TP c (kBR r) ∗ Cr c (kBR r)) ⊢ (bIn c r : sProp 𝕄) := by
  unfold bIn
  rw [bsl_prv]
  iintro ⟨H, ⟨Ha, Hb⟩, ⟨Hc, Hd⟩, He⟩
  isplitl [H]; · iexact H
  isplitl [Ha]; · iexact Ha
  isplitl [Hc]; · iexact Hc
  isplitl [Hb]; · iexact Hb
  isplitl [Hd] <;> iassumption
theorem mk_r (c : Dev nD) (r : Fin 7) :
    iprop((∃ f, sPts c r.val f) ∗ (∃ f, rPts (nxt c) r.val f) ∗ TP c (kRS r) ∗ TP c (kRR r) ∗ Cr c (kRR r)) ⊢ (rIn c r : sProp 𝕄) := by
  unfold rIn
  iintro ⟨H, H', ⟨Ha, Hb⟩, ⟨Hc, Hd⟩, He⟩
  isplitl [H]; · iexact H
  isplitl [H']; · iexact H'
  isplitl [Ha]; · iexact Ha
  isplitl [Hc]; · iexact Hc
  isplitl [Hb]; · iexact Hb
  isplitl [Hd] <;> iassumption

/-- The gather buffer cut: the device's own block, and those its neighbours write. -/
theorem x_cut (c : Dev nD) : iprop((∃ f, held c cc0_scratch0 f) ∗ (∃ f, held c cc0_scratch5 f)) ⊢ (iprop((∃ f, xPts c c fullShare f) ∗ giveR c ∗ giveL c) : sProp 𝕄) := by
  unfold giveR giveL
  iintro ⟨⟨%f, Hx⟩, ⟨%g, Hr⟩⟩
  ihave Hx := (Entails.of_eq ((xWhole c f).trans (split8 c _))) $$ Hx
  ihave Hr := (Entails.of_eq ((rWhole c g).trans (split7 _))) $$ Hr
  icases Hx with ⟨H0, Hf1, Hf2, Hf3, Hb1, Hb2, Hb3, Hb4⟩
  icases Hr with ⟨Hr0, Hr1, Hr2, Hr3, Hr4, Hr5, Hr6⟩
  isplitl [H0]; · iexists f; iexact H0
  isplitl [Hb1 Hb2 Hb3 Hb4]
  · isplitl [Hb1]; · iexists f; iexact Hb1
    isplitl [Hb2]; · iexists f; iexact Hb2
    isplitl [Hb3]; · iexists f; iexact Hb3
    iexists f; iexact Hb4
  isplitl [Hf1]; · iexists f; iexact Hf1
  isplitl [Hf2]; · iexists f; iexact Hf2
  isplitl [Hf3]; · iexists f; iexact Hf3
  isplitl [Hr0]; · iexists g; iexact Hr0
  isplitl [Hr1]; · iexists g; iexact Hr1
  isplitl [Hr2]; · iexists g; iexact Hr2
  isplitl [Hr3]; · iexists g; iexact Hr3
  isplitl [Hr4]; · iexists g; iexact Hr4
  isplitl [Hr5]; · iexists g; iexact Hr5
  iexists g; iexact Hr6

/-- And joined again. -/
theorem x_join (c : Dev nD) : xHalves m c ⊢ (held c cc0_scratch0 (GX m) : sProp 𝕄) := by
  rw [xWhole, split8 c]
  unfold xHalves
  simp only [← xPts_half]
  exact Entails.refl _

theorem rs_join (c : Dev nD) : iprop(rOut m c 0 ∗ rOut m c 1 ∗ rOut m c 2 ∗ rOut m c 3 ∗ rOut m c 4 ∗ rOut m c 5 ∗ rOut m c 6)
    ⊢ (iprop((bigSep Finset.univ fun r : Fin 7 => iprop(Zero c (kRS r) ∗ Zero c (kRR r))) ∗ held c cc0_scratch4 (SB m c) ∗ held c cc0_scratch5 (RB m c)) : sProp 𝕄) := by
  have h (r : Fin 7) : rOut m c r ⊢ (iprop((Zero c (kRS r) ∗ Zero c (kRR r)) ∗ sPts c r.val (SB m c) ∗ rPts c r.val (RB m c)) : sProp 𝕄) := by
    unfold rOut
    iintro ⟨Ha, Hb, Hs, Hr⟩
    isplitl [Ha Hb]
    · isplitl [Ha] <;> iassumption
    isplitl [Hs] <;> iassumption
  rw [sWhole, rWhole, ← split7 (fun r => rOut m c r), ← bigSep_sep', ← bigSep_sep']
  exact bigSep_mono fun r _ => h r

theorem zero_join (c : Dev nD) : iprop((fZero c 0 ∗ fZero c 1 ∗ fZero c 2) ∗ (bZero c 0 ∗ bZero c 1 ∗ bZero c 2 ∗ bZero c 3)
      ∗ bigSep Finset.univ fun r : Fin 7 => iprop(Zero c (kRS r) ∗ Zero c (kRR r))) ⊢ (bigSep Finset.univ fun k : Fin 28 => Zero c k : sProp 𝕄) := by
  rw [split28, split7]
  unfold fZero bZero
  iintro ⟨⟨⟨HkFS0, HkFR0⟩, ⟨HkFS1, HkFR1⟩, ⟨HkFS2, HkFR2⟩⟩, ⟨⟨HkBS0, HkBR0⟩, ⟨HkBS1, HkBR1⟩, ⟨HkBS2, HkBR2⟩, ⟨HkBS3, HkBR3⟩⟩, ⟨HkRS0, HkRR0⟩, ⟨HkRS1, HkRR1⟩, ⟨HkRS2, HkRR2⟩, ⟨HkRS3, HkRR3⟩, ⟨HkRS4, HkRR4⟩, ⟨HkRS5, HkRR5⟩, ⟨HkRS6, HkRR6⟩⟩
  isplitl [HkFS0]; · iexact HkFS0
  isplitl [HkFR0]; · iexact HkFR0
  isplitl [HkFS1]; · iexact HkFS1
  isplitl [HkFR1]; · iexact HkFR1
  isplitl [HkFS2]; · iexact HkFS2
  isplitl [HkFR2]; · iexact HkFR2
  isplitl [HkBS0]; · iexact HkBS0
  isplitl [HkBR0]; · iexact HkBR0
  isplitl [HkBS1]; · iexact HkBS1
  isplitl [HkBR1]; · iexact HkBR1
  isplitl [HkBS2]; · iexact HkBS2
  isplitl [HkBR2]; · iexact HkBR2
  isplitl [HkBS3]; · iexact HkBS3
  isplitl [HkBR3]; · iexact HkBR3
  isplitl [HkRS0]; · iexact HkRS0
  isplitl [HkRR0]; · iexact HkRR0
  isplitl [HkRS1]; · iexact HkRS1
  isplitl [HkRR1]; · iexact HkRR1
  isplitl [HkRS2]; · iexact HkRS2
  isplitl [HkRR2]; · iexact HkRR2
  isplitl [HkRS3]; · iexact HkRS3
  isplitl [HkRR3]; · iexact HkRR3
  isplitl [HkRS4]; · iexact HkRS4
  isplitl [HkRR4]; · iexact HkRR4
  isplitl [HkRS5]; · iexact HkRS5
  isplitl [HkRR5]; · iexact HkRR5
  isplitl [HkRS6]; · iexact HkRS6
  iexact HkRR6

/-- The staged inputs, held. -/
def ins (c : Dev nD) : sProp 𝕄 :=
  iprop(held c cc0_stg0_0 (xS m c) ∗ held c cc0_stg1_0 (wqS m c) ∗ held c cc0_stg2_0 (woS m c) ∗ held c cc0_stg3_0 (wkS m c) ∗ held c cc0_stg4_0 (wvS m c))

/-- The scratch buffers, at some contents. -/
def scr (c : Dev nD) : sProp 𝕄 :=
  iprop((∃ f, held c cc0_scratch0 f) ∗ (∃ f, held c cc0_scratch1 f) ∗ (∃ f, held c cc0_scratch2 f) ∗ (∃ f, held c cc0_scratch3 f)
    ∗ (∃ f, held c cc0_scratch4 f) ∗ (∃ f, held (F := F) c cc0_scratch5 f))

/-- What the body leaves besides the staged arrays: the scratch buffers, every counter at zero. -/
def left (c : Dev nD) : sProp 𝕄 := iprop(scr c ∗ (bigSep Finset.univ fun k : Fin 28 => Zero c k) ∗ (semVal (barCell c) 0 : sProp 𝕄))

set_option maxHeartbeats 4000000 in
/-- The whole body of one device. -/
theorem wp_body (c : Dev nD) (Q : PUnit → sProp 𝕄) :
    iprop(facts m K ∗ mine c ∗ due c ∗ scr c ∗ ins m c ∗ (∃ f, held c cc0_stg5_0 f) ∗ Ow c 0)
      ⊢ iprop(((left c ∗ ins m c ∗ held c cc0_stg5_0 (OUT m c) ∗ Ow c 16) -∗ Q ⟨⟩) -∗ WP c body Q) := by
  unfold body mine due scr ins
  simp only [wp_bind, Prog.lift, wp_deviceId]
  rw [split28, split3, split4, split7]
  iintro ⟨#HF, ⟨⟨Ht1, Ht2, Hat⟩, HkFS0, HkFR0, HkFS1, HkFR1, HkFS2, HkFR2, HkBS0, HkBR0, HkBS1, HkBR1, HkBS2, HkBR2, HkBS3, HkBR3, HkRS0, HkRR0, HkRS1, HkRR1, HkRS2, HkRR2, HkRS3, HkRR3, HkRS4, HkRR4, HkRS5, HkRR5, HkRS6, HkRR6⟩, ⟨Hcb, ⟨Hcf0, Hcf1, Hcf2⟩, ⟨Hcb0, Hcb1, Hcb2, Hcb3⟩, ⟨Hcr0, Hcr1, Hcr2, Hcr3, Hcr4, Hcr5, Hcr6⟩⟩,
    ⟨Hs0, Hs1, Hs2, Hs3, ⟨%fs, Hs4⟩, Hs5⟩, ⟨Hx, Hwq, Hwo, Hwk, Hwv⟩, Hout, HO⟩ Hk
  rw [wp_ret]; imodintro
  ihave Hc := (x_cut c) $$ [Hs0 Hs5]
  · isplitl [Hs0] <;> iassumption
  icases Hc with ⟨Hx0, HgR, HgL⟩
  iapply (wp_prologue m K c _ _ (dev1_eq c) (dev2_eq c)) $$ [HgL HgR Ht1 Ht2 Hat Hcb HO]
  · isplitr; · iexact HF
    isplitl [HgL]; · iexact HgL
    isplitl [HgR]; · iexact HgR
    isplitl [Ht1]; · iexact Ht1
    isplitl [Ht2]; · iexact Ht2
    isplitl [Hat]; · iexact Hat
    isplitl [Hcb] <;> iassumption
  iintro ⟨Hz, HgR, HgL, HO⟩
  iapply (wp_loadWq m c) $$ Hwq; iintro Hwq
  iapply (wp_loadWk m c) $$ Hwk; iintro Hwk
  iapply (wp_loadWv m c) $$ Hwv; iintro Hwv
  iapply (wp_loadWo m c) $$ Hwo; iintro Hwo
  iapply (wp_loadX m c) $$ Hx; iintro Hx
  iapply (wp_putX m c) $$ Hx0; iintro Hx0
  unfold giveR giveL
  icases HgR with ⟨Hg1, Hg2, Hg3, Hg4⟩
  icases HgL with ⟨Hl1, Hl2, Hl3, Hq0, Hq1, Hq2, Hq3, Hq4, Hq5, Hq6⟩
  ihave Hs4 := (Entails.of_eq ((sWhole c fs).trans (split7 _))) $$ Hs4
  icases Hs4 with ⟨Hp0, Hp1, Hp2, Hp3, Hp4, Hp5, Hp6⟩
  ihave HF0 := (mk_f c 0) $$ [Hl1 HkFS0 HkFR0 Hcf0]
  · isplitl [Hl1]; · iexact Hl1
    isplitl [HkFS0]; · iexact HkFS0
    isplitl [HkFR0] <;> iassumption
  ihave HF1 := (mk_f c 1) $$ [Hl2 HkFS1 HkFR1 Hcf1]
  · isplitl [Hl2]; · iexact Hl2
    isplitl [HkFS1]; · iexact HkFS1
    isplitl [HkFR1] <;> iassumption
  ihave HF2 := (mk_f c 2) $$ [Hl3 HkFS2 HkFR2 Hcf2]
  · isplitl [Hl3]; · iexact Hl3
    isplitl [HkFS2]; · iexact HkFS2
    isplitl [HkFR2] <;> iassumption
  ihave HB0 := (mk_b c 0) $$ [Hg1 HkBS0 HkBR0 Hcb0]
  · isplitl [Hg1]; · iexact Hg1
    isplitl [HkBS0]; · iexact HkBS0
    isplitl [HkBR0] <;> iassumption
  ihave HB1 := (mk_b c 1) $$ [Hg2 HkBS1 HkBR1 Hcb1]
  · isplitl [Hg2]; · iexact Hg2
    isplitl [HkBS1]; · iexact HkBS1
    isplitl [HkBR1] <;> iassumption
  ihave HB2 := (mk_b c 2) $$ [Hg3 HkBS2 HkBR2 Hcb2]
  · isplitl [Hg3]; · iexact Hg3
    isplitl [HkBS2]; · iexact HkBS2
    isplitl [HkBR2] <;> iassumption
  ihave HB3 := (mk_b c 3) $$ [Hg4 HkBS3 HkBR3 Hcb3]
  · isplitl [Hg4]; · iexact Hg4
    isplitl [HkBS3]; · iexact HkBS3
    isplitl [HkBR3] <;> iassumption
  ihave HR0 := (mk_r c 0) $$ [Hp0 Hq0 HkRS0 HkRR0 Hcr0]
  · isplitl [Hp0]; · iexists fs; iexact Hp0
    isplitl [Hq0]; · iexact Hq0
    isplitl [HkRS0]; · iexact HkRS0
    isplitl [HkRR0] <;> iassumption
  ihave HR1 := (mk_r c 1) $$ [Hp1 Hq1 HkRS1 HkRR1 Hcr1]
  · isplitl [Hp1]; · iexists fs; iexact Hp1
    isplitl [Hq1]; · iexact Hq1
    isplitl [HkRS1]; · iexact HkRS1
    isplitl [HkRR1] <;> iassumption
  ihave HR2 := (mk_r c 2) $$ [Hp2 Hq2 HkRS2 HkRR2 Hcr2]
  · isplitl [Hp2]; · iexists fs; iexact Hp2
    isplitl [Hq2]; · iexact Hq2
    isplitl [HkRS2]; · iexact HkRS2
    isplitl [HkRR2] <;> iassumption
  ihave HR3 := (mk_r c 3) $$ [Hp3 Hq3 HkRS3 HkRR3 Hcr3]
  · isplitl [Hp3]; · iexists fs; iexact Hp3
    isplitl [Hq3]; · iexact Hq3
    isplitl [HkRS3]; · iexact HkRS3
    isplitl [HkRR3] <;> iassumption
  ihave HR4 := (mk_r c 4) $$ [Hp4 Hq4 HkRS4 HkRR4 Hcr4]
  · isplitl [Hp4]; · iexists fs; iexact Hp4
    isplitl [Hq4]; · iexact Hq4
    isplitl [HkRS4]; · iexact HkRS4
    isplitl [HkRR4] <;> iassumption
  ihave HR5 := (mk_r c 5) $$ [Hp5 Hq5 HkRS5 HkRR5 Hcr5]
  · isplitl [Hp5]; · iexists fs; iexact Hp5
    isplitl [Hq5]; · iexact Hq5
    isplitl [HkRS5]; · iexact HkRS5
    isplitl [HkRR5] <;> iassumption
  ihave HR6 := (mk_r c 6) $$ [Hp6 Hq6 HkRS6 HkRR6 Hcr6]
  · isplitl [Hp6]; · iexists fs; iexact Hp6
    isplitl [Hq6]; · iexact Hq6
    isplitl [HkRS6]; · iexact HkRS6
    isplitl [HkRR6] <;> iassumption
  ihave Hq := (qkv_start m c) $$ [Hs1 Hs2 Hs3]
  · isplitl [Hs1]; · iexact Hs1
    isplitl [Hs2] <;> iassumption
  iapply (wp_gather m K c) $$ [Hx0 Hq HF0 HF1 HF2 HB0 HB1 HB2 HB3 HO]
  · isplitr; · iexact HF
    isplitl [Hx0]; · iexact Hx0
    isplitl [Hq]; · iexact Hq
    isplitl [HF0]; · iexact HF0
    isplitl [HF1]; · iexact HF1
    isplitl [HF2]; · iexact HF2
    isplitl [HB0]; · iexact HB0
    isplitl [HB1]; · iexact HB1
    isplitl [HB2]; · iexact HB2
    isplitl [HB3] <;> iassumption
  iintro ⟨Hxs, Hq, Hzf, Hzb, HO⟩
  iapply (wp_scatter m K c) $$ [Hq Hout HR0 HR1 HR2 HR3 HR4 HR5 HR6 HO]
  · isplitr; · iexact HF
    isplitl [Hq]; · iexact Hq
    isplitl [Hout]; · iexact Hout
    isplitl [HR0]; · iexact HR0
    isplitl [HR1]; · iexact HR1
    isplitl [HR2]; · iexact HR2
    isplitl [HR3]; · iexact HR3
    isplitl [HR4]; · iexact HR4
    isplitl [HR5]; · iexact HR5
    isplitl [HR6] <;> iassumption
  iintro ⟨Hq, Hout, Hr, HO⟩
  ihave Hxs := (x_join m c) $$ Hxs
  ihave Hr := (rs_join m c) $$ Hr
  icases Hr with ⟨Hzr, Hs4, Hs5⟩
  ihave Hzz := (zero_join c) $$ [Hzf Hzb Hzr]
  · isplitl [Hzf]; · iexact Hzf
    isplitl [Hzb] <;> iassumption
  unfold qkvFull
  icases Hq with ⟨Hs1, Hs2, Hs3⟩
  iapply Hk
  unfold left scr
  isplitl [Hxs Hs1 Hs2 Hs3 Hs4 Hs5 Hzz Hz]
  · isplitl [Hxs Hs1 Hs2 Hs3 Hs4 Hs5]
    · isplitl [Hxs]; · iexists _; iexact Hxs
      isplitl [Hs1]; · iexists _; iexact Hs1
      isplitl [Hs2]; · iexists _; iexact Hs2
      isplitl [Hs3]; · iexists _; iexact Hs3
      isplitl [Hs4]; · iexists _; iexact Hs4
      iexists _; iexact Hs5
    isplitl [Hzz] <;> iassumption
  isplitl [Hx Hwq Hwo Hwk Hwv]
  · isplitl [Hx]; · iexact Hx
    isplitl [Hwq]; · iexact Hwq
    isplitl [Hwo]; · iexact Hwo
    isplitl [Hwk] <;> iassumption
  isplitl [Hout] <;> iassumption

end Cert.RingProof
-- ==== Proof.Run.lean ====
/-
The launch: the library's body obligation, the semaphore cells and tokens dealt over the ring, the credits, and the
run of the eight devices.
-/
module

public import proofs.«01_k».proof.Proof.Body
public import Idealize.ShloMosaic.Lib.Quiescent
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

/-- What every device may use, the levels apart. -/
def records (K : Dev nD × Option (Fin 28) → ℕ) : sProp 𝕄 :=
  iprop((bigSep Finset.univ fun ck : Dev nD × Option (Fin 28) => cellInv ER (ringRd m) (K ck) (kcell ck))
    ∗ bigSep Finset.univ fun ck : Dev nD × Option (Fin 28) => reached ER (kcell ck) 0)
instance records_persistent (K : Dev nD × Option (Fin 28) → ℕ) : BI.Persistent (records (F := F) m K) := by unfold records; infer_instance

/-- What the dealing makes of the ring's ghost state, per device. -/
def G' (c : Dev nD) : sProp 𝕄 := iprop(∃ K, records m K ∗ mine c)
/-- What the body starts from. -/
def start (c : Dev nD) : sProp 𝕄 := iprop((∃ K, facts m K ∗ mine c) ∗ due c)

/-- What the windows hold before and after the body, and what the body owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => woS m c
    | ⟨3, _⟩ => wkS m c
    | ⟨4, _⟩ => wvS m c
    | ⟨5, _⟩ => OUT m c
  Φ t := match t with
    | ⟨0, _⟩ => iprop(start m c ∗ scr c)
    | ⟨_ + 1, _⟩ => left c
  q _ := fullShare
  owed t := match t with
    | ⟨0, _⟩ => ow c 0
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_held (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ held c b f) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ held c b f)

abbrev t₀ : Fin cfg0.N := t0_0

set_option maxRecDepth 4000 in
/-- What the body starts from. -/
def pre (c : Dev nD) : sProp 𝕄 :=
  iprop((start m c ∗ scr c) ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
/-- What the body leaves. -/
def post (c : Dev nD) : sProp 𝕄 :=
  iprop(left c ∗ (dats m ρ 0 c).owesAt () t₀.succ ∗ stg c cc0_stg0_0 (xS m c) ∗ stg c cc0_stg1_0 (wqS m c) ∗ stg c cc0_stg2_0 (woS m c)
    ∗ stg c cc0_stg3_0 (wkS m c) ∗ stg c cc0_stg4_0 (wvS m c) ∗ stg c cc0_stg5_0 (OUT m c))

theorem stg_intro (c : Dev nD) (b : Ref sig .tc) (X : b.ty.Contents (Elt F)) : (held c b X : sProp 𝕄) ⊢ stg c b X := by
  iintro H; iexists X; isplitr; · (ipureintro; rfl)
  iexact H

theorem before_0 (c : Dev nD) (d) : (dats m ρ 0 c).before (0 : Fin 6) t₀ d = xS m c := by unfold Dat.before; rw [if_pos (fetch0_0 t₀)]; rfl
theorem before_1 (c : Dev nD) (d) : (dats m ρ 0 c).before (1 : Fin 6) t₀ d = wqS m c := by unfold Dat.before; rw [if_pos (fetch0_1 t₀)]; rfl
theorem before_2 (c : Dev nD) (d) : (dats m ρ 0 c).before (2 : Fin 6) t₀ d = woS m c := by unfold Dat.before; rw [if_pos (fetch0_2 t₀)]; rfl
theorem before_3 (c : Dev nD) (d) : (dats m ρ 0 c).before (3 : Fin 6) t₀ d = wkS m c := by unfold Dat.before; rw [if_pos (fetch0_3 t₀)]; rfl
theorem before_4 (c : Dev nD) (d) : (dats m ρ 0 c).before (4 : Fin 6) t₀ d = wvS m c := by unfold Dat.before; rw [if_pos (fetch0_4 t₀)]; rfl

set_option maxHeartbeats 1000000 in
/-- The body takes a device from the one to the other. -/
theorem sound (c : Dev nD) : pre m ρ c ⊢ WP c body fun _ => post m ρ c := by
  unfold pre start
  simp only [before_0, before_1, before_2, before_3, before_4]
  iintro ⟨⟨⟨⟨%K, #HF, Hm⟩, Hd⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  rw [show (dats m ρ 0 c).owed t₀.castSucc = ow c 0 from rfl]
  iapply (wp_body m K c) $$ [Hm Hd Hs H0 H1 H2 H3 H4 H5 HO]
  · isplitr; · iexact HF
    isplitl [Hm]; · iexact Hm
    isplitl [Hd]; · iexact Hd
    isplitl [Hs]; · iexact Hs
    isplitl [H0 H1 H2 H3 H4]
    · unfold ins
      isplitl [H0]; · iexact H0
      isplitl [H1]; · iexact H1
      isplitl [H2]; · iexact H2
      isplitl [H3] <;> iassumption
    isplitl [H5]; · iexists _; iexact H5
    unfold Ow
    iexists W; iexact HO
  unfold ins Ow
  iintro ⟨Hl, ⟨H0, H1, H2, H3, H4⟩, H5, ⟨%W', HO⟩⟩
  unfold post Dat.owesAt Pipeline.owesWithin
  rw [show (dats m ρ 0 c).owed t₀.succ = ow c 16 from rfl]
  isplitl [Hl]; · iexact Hl
  isplitl [HO]
  · iexists W'
    isplitr; · ipureintro; exact fun _ _ => Or.inl trivial
    iexact HO
  isplitl [H0]; · iapply (stg_intro c); iexact H0
  isplitl [H1]; · iapply (stg_intro c); iexact H1
  isplitl [H2]; · iapply (stg_intro c); iexact H2
  isplitl [H3]; · iapply (stg_intro c); iexact H3
  isplitl [H4]; · iapply (stg_intro c); iexact H4
  iapply (stg_intro c); iexact H5

set_option maxRecDepth 65536 in
set_option maxHeartbeats 4000000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_held]
  show pre m ρ c ⊢ wp frame (wpE (defs₀ (F := F)) 𝒱₀ c none) Set.univ
    (cc0_body (F := F) xM (Memref.isWhole_whole _) wqM (Memref.isWhole_whole _) woM (Memref.isWhole_whole _) wkM (Memref.isWhole_whole _)
    wvM (Memref.isWhole_whole _) oM (Memref.isWhole_whole _) xgM (Memref.isWhole_whole _) qM (Memref.isWhole_whole _) kM (Memref.isWhole_whole _) vM (Memref.isWhole_whole _)
    sbM (Memref.isWhole_whole _) rbM (Memref.isWhole_whole _) cc0_scratch6 cc0_scratch7 cc0_scratch8 cc0_scratch9 cc0_scratch10 cc0_scratch11) (fun _ => post m ρ c)
  rw [body_eq]
  exact sound m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Option (Fin 28) → SemLoc sig) := by
  rintro (_ | k) (_ | k') h
  · rfl
  · cases h
  · cases h
  · exact congrArg some (dsem_inj (SemLoc.dma.inj h))
theorem kcell_injective : Function.Injective (kcell : Dev nD × Option (Fin 28) → GSem nD τ sig) := by
  rintro ⟨c, k⟩ ⟨c', k'⟩ h
  have h1 : c = c' := congrArg (fun g : GSem nD τ sig => g.1.1) h
  have h2 : k = k' := csem_injective (congrArg Prod.snd h)
  rw [h1, h2]
theorem kcell_eq_iff (a b : Dev nD) (k k' : Option (Fin 28)) : kcell (a, k) = kcell (b, k') ↔ a = b ∧ k = k' :=
  ⟨fun h => by have := kcell_injective h; exact ⟨congrArg Prod.fst this, congrArg Prod.snd this⟩, fun ⟨h, h'⟩ => by rw [h, h']⟩

/-- All the semaphores of the ring. -/
def ringCells : Finset (GSem nD τ sig) := Finset.univ.map ⟨kcell, kcell_injective⟩

/-- The duty tokens: each cell's two. -/
abbrev tokOf (x : Dev nD × Option (Fin 28) × Bool) : GSem nD τ sig × ℕ × Bool := (kcell (x.1, x.2.1), 0, x.2.2)
theorem tokOf_injective : Function.Injective (tokOf : Dev nD × Option (Fin 28) × Bool → GSem nD τ sig × ℕ × Bool) := by
  rintro ⟨c, k, d⟩ ⟨c', k', d'⟩ h
  have h1 := kcell_injective (congrArg Prod.fst h)
  have h2 : d = d' := congrArg (fun x : GSem nD τ sig × ℕ × Bool => x.2.2) h
  rw [h2, show c = c' from congrArg Prod.fst h1, show k = k' from congrArg Prod.snd h1]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun k : Option (Fin 28) => iprop(dutyTok ER (kcell (c, k)) 0 false ∗ dutyTok ER (kcell (c, k)) 0 true)

/-- What the launch element deals device `c`. -/
def G (c : Dev nD) : sProp 𝕄 :=
  iprop((bigSep Finset.univ fun k : Option (Fin 28) => roundState ER (ringRd m) (kcell (c, k)) 0)
    ∗ (bigSep Finset.univ fun k : Option (Fin 28) => iprop(atPos ER (kcell (c, k)) 0 ∅ 0 ∗ reached ER (kcell (c, k)) 0)) ∗ toks c)

theorem split_bool (Φ : Bool → sProp 𝕄) : bigSep Finset.univ Φ = iprop(Φ false ∗ Φ true) := bigSep_univ_eq_bigSepL [false, true] (by decide) (by decide) Φ

theorem split_option (Φ : Option (Fin 28) → sProp 𝕄) : bigSep Finset.univ Φ = iprop(Φ none ∗ bigSep Finset.univ fun k => Φ (some k)) := by
  rw [bigSep_univ_at Φ none, show (Finset.univ.erase (none : Option (Fin 28))) = Finset.univ.map Function.Embedding.some from by decide, bigSep_map]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (Fin 28) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_prod]
    exact bigSep_congr fun k _ => by rw [split_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun k : Fin 28 => Zero c k := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 28) => semVal (kcell (c, k)) 0 : sProp 𝕄) := by
  rw [ownSems0_eq, unscopedSems0_eq, split_option]
  unfold Zero
  iintro ⟨H, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 28) => semVal (kcell (c, k)) 0) ∗ bigSep Finset.univ fun k : Option (Fin 28) => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The dealing -/

theorem payDev_bij (k : Fin 28) : Function.Bijective fun c : Dev nD => payDev c k := by revert k; decide
def payRing (k : Fin 28) : Dev nD ≃ Dev nD := Equiv.ofBijective _ (payDev_bij k)

/-- The tokens device `c` pays with. -/
def payToks (c : Dev nD) : sProp 𝕄 :=
  iprop((dutyTok ER (barCell (prv c)) 0 true ∗ dutyTok ER (barCell (nxt c)) 0 false) ∗ bigSep Finset.univ fun k : Fin 28 => Tok c k)

theorem toks_around : (bigSep Finset.univ fun c : Dev nD => (toks c : sProp 𝕄)) ⊢ bigSep Finset.univ fun c : Dev nD => payToks c := by
  have e1 : (bigSep Finset.univ fun c : Dev nD => (toks c : sProp 𝕄))
      ⊢ iprop((bigSep Finset.univ fun c : Dev nD => dutyTok ER (barCell c) 0 true) ∗ (bigSep Finset.univ fun c : Dev nD => dutyTok ER (barCell c) 0 false)
        ∗ bigSep Finset.univ fun k : Fin 28 => bigSep Finset.univ fun c : Dev nD => dutyTok ER (dcell c k) 0 false) := by
    have h (c : Dev nD) : (toks c : sProp 𝕄) ⊢ iprop(dutyTok ER (barCell c) 0 true ∗ dutyTok ER (barCell c) 0 false
        ∗ bigSep Finset.univ fun k : Fin 28 => dutyTok ER (dcell c k) 0 false) := by
      unfold toks
      rw [split_option, bigSep_sep']
      iintro ⟨⟨H1, H2⟩, H3, -⟩
      isplitl [H2]; · iexact H2
      isplitl [H1]; · iexact H1
      iexact H3
    rw [bigSep_univ_comm (fun (k : Fin 28) (c : Dev nD) => (dutyTok ER (dcell c k) 0 false : sProp 𝕄)), ← bigSep_sep', ← bigSep_sep']
    exact bigSep_mono fun c _ => h c
  refine e1.trans ?_
  unfold payToks Tok
  rw [bigSep_sep', bigSep_sep', bigSep_univ_equiv ring.symm (fun c : Dev nD => (dutyTok ER (barCell c) 0 true : sProp 𝕄)),
    bigSep_univ_equiv ring (fun c : Dev nD => (dutyTok ER (barCell c) 0 false : sProp 𝕄)),
    bigSep_congr (s := Finset.univ) (fun (k : Fin 28) _ => bigSep_univ_equiv (payRing k) (fun c : Dev nD => (dutyTok ER (dcell c k) 0 false : sProp 𝕄))),
    bigSep_univ_comm]
  iintro ⟨H1, H2, H3⟩
  isplitr [H3]
  · isplitl [H1]; · iexact H1
    iexact H2
  iexact H3

/-- What stays with device `c`. -/
def linear (c : Dev nD) : sProp 𝕄 := iprop((bigSep Finset.univ fun k : Option (Fin 28) => atPos ER (kcell (c, k)) 0 ∅ 0) ∗ payToks c)

theorem ghost_intro (K : Dev nD × Option (Fin 28) → ℕ) (c : Dev nD) : iprop(records m K ∗ linear c) ⊢ G' m c := by
  unfold linear payToks G' mine
  rw [split_option, bigSep_sep' Finset.univ (fun k : Fin 28 => Tok c k)]
  unfold Pos
  iintro ⟨#HR, ⟨Hb, Hp⟩, ⟨H1, H2⟩, Ht⟩
  iexists K
  isplitr; · iexact HR
  isplitl [H1 H2 Hb]
  · isplitl [H1]; · iexact H1
    isplitl [H2] <;> iassumption
  isplitl [Ht] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Fin 28) => iprop(∃ κ : ℕ, cellInv ER (ringRd m) κ (kcell ck))),
    bigSep_congr (s := Finset.univ) (fun (c : Dev nD) _ => bigSep_sep' Finset.univ (fun k : Option (Fin 28) => (atPos ER (kcell (c, k)) 0 ∅ 0 : sProp 𝕄)) (fun k => reached ER (kcell (c, k)) 0)),
    bigSep_sep', ← bigSep_univ_prod (fun ck : Dev nD × Option (Fin 28) => (reached ER (kcell ck) 0 : sProp 𝕄))]
  iintro ⟨HI, ⟨Hat, #HR⟩, Htok⟩
  ihave HK := (BI.bigSep_exists_pi Finset.univ (fun (ck : Dev nD × Option (Fin 28)) (κ : ℕ) => (cellInv ER (ringRd m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem owing_at (l : List (GSem nD τ sig × ℕ)) (g : GSem nD τ sig) : owing l g () = (l.map fun p => if g = p.1 then p.2 else 0).sum := by
  induction l with
  | nil => rfl
  | cons p l ih =>
    unfold owing
    rw [Pi.add_apply, Finsupp.add_apply, tallyAt_apply, List.map_cons, List.sum_cons, ih, Nat.add_comm]
    simp only [and_true]

/-- Who pays what, as indices. -/
def evk (c : Dev nD) : List ((Dev nD × Option (Fin 28)) × Bool) :=
  [((prv c, none), true), ((nxt c, none), true),
    ((nxt c, some (kFR 0)), false), ((prv c, some (kBR 0)), false), ((nxt c, some (kFR 1)), false), ((prv c, some (kBR 1)), false),
    ((nxt c, some (kFR 2)), false), ((prv c, some (kBR 2)), false), ((prv c, some (kBR 3)), false),
    ((nxt c, some (kRR 0)), false), ((nxt c, some (kRR 1)), false), ((nxt c, some (kRR 2)), false), ((nxt c, some (kRR 3)), false),
    ((nxt c, some (kRR 4)), false), ((nxt c, some (kRR 5)), false), ((nxt c, some (kRR 6)), false)]
theorem evs_eq (c : Dev nD) : evs c = (evk c).map fun p => (kcell p.1, if p.2 then 1 else N) := rfl

theorem ow_at (d : Dev nD) (ck : Dev nD × Option (Fin 28)) :
    ow d 0 (kcell ck) () = ((evk d).map fun p => if ck = p.1 then (if p.2 then 1 else N) else 0).sum := by
  show owing (evs d) (kcell ck) () = _
  rw [owing_at, evs_eq, List.map_map]
  refine congrArg List.sum (List.map_congr_left fun p _ => ?_)
  show (if kcell ck = kcell p.1 then _ else _) = _
  by_cases h : ck = p.1
  · rw [if_pos h, if_pos (congrArg kcell h)]
  · rw [if_neg h, if_neg fun h' => h (kcell_injective h')]

/-- How many payments of each kind a cell is due, all devices together. -/
def cnt (ck : Dev nD × Option (Fin 28)) (b : Bool) : ℕ := ∑ d : Dev nD, ((evk d).countP fun p => decide (ck = p.1) && (p.2 == b))

theorem list_cnt (l : List ((Dev nD × Option (Fin 28)) × Bool)) (ck : Dev nD × Option (Fin 28)) :
    (l.map fun p => if ck = p.1 then (if p.2 then 1 else N) else 0).sum
      = (l.countP fun p => decide (ck = p.1) && (p.2 == true)) + (l.countP fun p => decide (ck = p.1) && (p.2 == false)) * N := by
  induction l with
  | nil => rw [List.map_nil, List.sum_nil, List.countP_nil, List.countP_nil, Nat.zero_mul, Nat.zero_add]
  | cons p l ih =>
    obtain ⟨p1, b⟩ := p
    rw [List.map_cons, List.sum_cons, ih, List.countP_cons, List.countP_cons]
    by_cases h : ck = p1 <;> cases b <;> simp only [h, if_true, if_false, decide_true, decide_false, Bool.true_and, Bool.false_and, beq_self_eq_true, reduceCtorEq, Bool.false_eq_true,
      show ((true == false) = false) from rfl, show ((false == true) = false) from rfl] <;> ring

theorem launch_at (ck : Dev nD × Option (Fin 28)) (a b : ℕ) (ha : cnt ck true = a) (hb : cnt ck false = b) :
    tallyOn (kcell ck) (launchCredit (Pipeline.owing fun c => ow c 0) 0 (kcell ck)) = (tallyAt (kcell ck) () (a + b * N) : CellTallies nD τ sig Unit) := by
  unfold tallyAt; refine congrArg _ (Finsupp.ext fun u => ?_); cases u
  rw [Pipeline.launchCredit_owing, Finsupp.single_eq_same, Finset.sum_congr rfl fun d _ => (ow_at d ck).trans (list_cnt _ ck), Finset.sum_add_distrib, ← Finset.sum_mul,
    ← ha, ← hb]
  rfl

theorem launch_bar (c : Dev nD) :
    tallyOn (barCell c) (launchCredit (Pipeline.owing fun c => ow c 0) 0 (barCell c)) = (tallyAt (barCell c) () 2 : CellTallies nD τ sig Unit) := by
  have := launch_at (c, none) 2 0 (by revert c; decide +kernel) (by revert c; decide +kernel)
  rwa [Nat.zero_mul] at this
theorem launch_FR (c : Dev nD) (r : Fin 3) :
    tallyOn (dcell c (kFR r)) (launchCredit (Pipeline.owing fun c => ow c 0) 0 (dcell c (kFR r))) = (tallyAt (dcell c (kFR r)) () N : CellTallies nD τ sig Unit) := by
  have := launch_at (c, some (kFR r)) 0 1 (by revert c r; decide +kernel) (by revert c r; decide +kernel)
  rwa [Nat.one_mul, Nat.zero_add] at this
theorem launch_BR (c : Dev nD) (r : Fin 4) :
    tallyOn (dcell c (kBR r)) (launchCredit (Pipeline.owing fun c => ow c 0) 0 (dcell c (kBR r))) = (tallyAt (dcell c (kBR r)) () N : CellTallies nD τ sig Unit) := by
  have := launch_at (c, some (kBR r)) 0 1 (by revert c r; decide +kernel) (by revert c r; decide +kernel)
  rwa [Nat.one_mul, Nat.zero_add] at this
theorem launch_RR (c : Dev nD) (r : Fin 7) :
    tallyOn (dcell c (kRR r)) (launchCredit (Pipeline.owing fun c => ow c 0) 0 (dcell c (kRR r))) = (tallyAt (dcell c (kRR r)) () N : CellTallies nD τ sig Unit) := by
  have := launch_at (c, some (kRR r)) 0 1 (by revert c r; decide +kernel) (by revert c r; decide +kernel)
  rwa [Nat.one_mul, Nat.zero_add] at this

theorem creds (c : Dev nD) : (Pipeline.launchCred (fun c => ow c 0) c : sProp 𝕄) ⊢ due c := by
  have h : (Pipeline.launchCred (fun c => ow c 0) c : sProp 𝕄)
      ⊢ bigSep Finset.univ fun k : Option (Fin 28) => cred (tallyOn (kcell (c, k)) (launchCredit (Pipeline.owing fun c => ow c 0) 0 (kcell (c, k)))) := by
    unfold Pipeline.launchCred
    refine (bigSep_subset (t := Finset.univ.map ⟨csem, csem_injective⟩) (Finset.subset_univ _)).trans ?_
    rw [bigSep_map]
    exact Entails.refl _
  refine h.trans ?_
  rw [split_option, split28]
  unfold due Cr
  rw [split3, split4, split7]
  rw [← launch_bar, ← launch_FR, ← launch_FR, ← launch_FR, ← launch_BR, ← launch_BR, ← launch_BR, ← launch_BR,
    ← launch_RR, ← launch_RR, ← launch_RR, ← launch_RR, ← launch_RR, ← launch_RR, ← launch_RR]
  iintro ⟨Hb, -, HkFR0, -, HkFR1, -, HkFR2, -, HkBR0, -, HkBR1, -, HkBR2, -, HkBR3, -, HkRR0, -, HkRR1, -, HkRR2, -, HkRR3, -, HkRR4, -, HkRR5, -, HkRR6⟩
  isplitl [Hb]; · iexact Hb
  isplitl [HkFR0 HkFR1 HkFR2]
  · isplitl [HkFR0]; · iexact HkFR0
    isplitl [HkFR1]; · iexact HkFR1
    iexact HkFR2
  isplitl [HkBR0 HkBR1 HkBR2 HkBR3]
  · isplitl [HkBR0]; · iexact HkBR0
    isplitl [HkBR1]; · iexact HkBR1
    isplitl [HkBR2]; · iexact HkBR2
    iexact HkBR3
  isplitl [HkRR0]; · iexact HkRR0
  isplitl [HkRR1]; · iexact HkRR1
  isplitl [HkRR2]; · iexact HkRR2
  isplitl [HkRR3]; · iexact HkRR3
  isplitl [HkRR4]; · iexact HkRR4
  isplitl [HkRR5]; · iexact HkRR5
  iexact HkRR6

/-! ### The theorem's side conditions -/

theorem start_intro (c : Dev nD) :
    iprop(Pipeline.unscopedRestP Pipeline.Prefetch.none cfg0.spec c (fun b => m ((c : Thread nD τ).loc b)) ∗ levAts L lv
        ∗ Pipeline.launchCred (fun c => ow c 0) c ∗ prngReg c (ρ c) ∗ G' m c)
      ⊢ |={Set.univ}=> iprop(start m c ∗ emp) := by
  unfold G' records
  iintro ⟨-, #Hlev, Hcr, -, ⟨%K, ⟨#H1, #H2⟩, Hm⟩⟩
  ihave Hc := (creds (F := F) c) $$ Hcr
  imodintro
  unfold start facts
  isplitl
  · isplitl [Hm]
    · iexists K
      isplitr
      · isplitr; · iexact H1
        isplitr; · iexact H2
        iexact Hlev
      iexact Hm
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scopedRest0_eq]
  unfold scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = left c from rfl, scopedRest0_eq, ownSems0_eq, unscopedSems0_eq]
  unfold left scr
  iintro ⟨Hr, Hz, HzB⟩
  isplitl [HzB]; · iexact HzB
  isplitl [Hz] <;> iassumption

theorem evs_lv (c : Dev nD) : ∀ p ∈ evs c, p.1.1.2 = .tc ∧ 0 < lvS p.1.2 := by revert c; decide

theorem mayWait_stage (c : Dev nD) (q : DmaSem sig) (hq : lvS (.dma q) = 0) (O : CellTallies nD τ sig Unit) (hO : O = ow c 0 ∨ O = 0) :
    (levAts L lv : sProp 𝕄) ⊢ MayWait (c : Thread nD τ) (.dma q) () O := by
  rcases hO with rfl | rfl
  · exact mayWait c (.dma q) (evs c) (by rw [hq]; exact evs_lv c)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- An array of a device after the launch. -/
def finalA (c : Dev nD) (w : Fin cfg0.W) : Buf (Elt F) ((cfg0.win w).arr.view.loc (c : Thread nD τ)) := (dats m ρ 0 c).arrAt w cfg0.N

/-- Every array after the launch is the one named. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
set_option maxHeartbeats 4000000 in
/-- The eight devices run from any memory with zero counters, for any float values: every fair execution ends, with
    each device's arrays at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := fun c => ow c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument is unchanged. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

end Cert.RingProof
-- ==== Proof.Frames.lean ====
/-
The frames: both kernels run, end, and leave their arguments and every counter as they were.
-/
module

public import proofs.«01_k».proof.Proof.Run
public import proofs.«01_k».proof.Defs
public import proofs.«01_k».proof.Proof.Gen.Kernel
public import proofs.«01_k».proof.Proof.Gen.ReferenceIdeal.Run

@[expose] public section
noncomputable section

namespace Cert.Proof

open Idealize.ShloMosaic Idealize.SL.Sem

section Any
variable {F : FTy → Type} [FloatOps F] [Named F]

/-- The arguments after the run, for any float values. -/
theorem frame_any (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c =>
    ⟨(h.1 c (0 : Fin 6)).trans (RingProof.finalA_in m g c (0 : Fin 6) rfl), (h.1 c (1 : Fin 6)).trans (RingProof.finalA_in m g c (1 : Fin 6) rfl),
     (h.1 c (3 : Fin 6)).trans (RingProof.finalA_in m g c (3 : Fin 6) rfl), (h.1 c (4 : Fin 6)).trans (RingProof.finalA_in m g c (4 : Fin 6) rfl),
     (h.1 c (2 : Fin 6)).trans (RingProof.finalA_in m g c (2 : Fin 6) rfl)⟩, h.2⟩) (RingProof.run_main m g)
end Any

/-- The frame of the idealized kernel. -/
theorem frameKernelIdeal : Cert.quiescent_KernelIdeal := fun m g _ => frame_any (F := Ideal) m g

/-- At bit patterns a named constant is the pattern written. -/
@[reducible] def namedBits : Named Bits where
  named _ _ {φ} b := FloatOps.ofBits φ b

section Patterns
attribute [local instance] namedBits

set_option maxRecDepth 65536 in
/-- At bit patterns the two bodies are one. -/
theorem body_patterns : (Cert.KernelIdeal.cc0_body (F := Bits)) = Cert.Kernel.cc0_body (F := Bits) := rfl

set_option maxRecDepth 65536 in
/-- And so are the calls. -/
theorem defs₀_patterns : (Cert.KernelIdeal.defs₀ (F := Bits)) = Cert.Kernel.defs₀ (F := Bits) := by
  unfold Cert.KernelIdeal.defs₀ Cert.Kernel.defs₀
  refine congrArg Defs.onTc (funext fun l => funext fun x => ?_)
  match l, x with
  | 0, (t, s) => exact congrFun rfl _

/-- And the calls with their pipelines. -/
theorem defs_patterns : (Cert.KernelIdeal.defs (F := Bits)) = Cert.Kernel.defs (F := Bits) :=
  congrArg (Pipeline.defs Cert.Kernel.pcfgs) defs₀_patterns

/-- The kernel as it stands: the same program at bit patterns. -/
theorem frameKernel : Cert.quiescent_Kernel := fun m g _ => by
  have h := frame_any (F := Bits) m g
  rw [defs_patterns] at h
  exact h
end Patterns

/-- The reference has no semaphores and writes no argument. -/
theorem frameReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The one rewritten site: the scale's name. -/
theorem preservesKernel : Cert.preserves_Kernel_KernelIdeal :=
  IdealRules.named_const.statement Cert.KernelIdeal.κ "s" .bf16 0x3DB5#16 ((11863283 / 134217728 : ℝ) : EReal) rfl

end Cert.Proof

end
-- ==== Proof.Spec.lean ====
/-
The mathematics: softmax attention over extended reals, once in one pass and once in two chunks with a running maximum.
-/
module

public import Idealize.ShloMosaic.PureOps.Ideal
public import Idealize.ShloMosaic.Lib.Pointwise

@[expose] public section
noncomputable section

namespace Cert.Attn

open Idealize.ShloMosaic

/-- A nonnegative real moves into a finite sum of extended reals. -/
theorem mul_sum {ι : Type} (S : Finset ι) (k : ℝ) (hk : 0 ≤ k) (f : ι → EReal) : (k : EReal) * ∑ i ∈ S, f i = ∑ i ∈ S, (k : EReal) * f i := by
  classical
  induction S using Finset.induction_on with
  | empty => simp
  | insert a S ha ih =>
    rw [Finset.sum_insert ha, Finset.sum_insert ha, EReal.left_distrib_of_nonneg_of_ne_top (by exact_mod_cast hk) (EReal.coe_ne_top k), ih]

/-- A sum of real numbers, read among the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a real number. -/
theorem exp_coe (a : ℝ) : Ideal.exp (a : EReal) = (Real.exp a : EReal) := rfl

/-- A nonnegative real factor goes into a sum of two. -/
theorem mul_add_real (k : ℝ) (hk : 0 ≤ k) (a b : EReal) : (k : EReal) * (a + b) = k * a + k * b :=
  EReal.left_distrib_of_nonneg_of_ne_top (by exact_mod_cast hk) (EReal.coe_ne_top k) a b

/-- The exponential of a difference of real numbers. -/
theorem exp_sub_coe (a b : ℝ) : Ideal.exp ((a : EReal) - (b : EReal)) = ((Real.exp (-b) : ℝ) : EReal) * ((Real.exp a : ℝ) : EReal) := by
  rw [← EReal.coe_sub, exp_coe, ← EReal.coe_mul, ← Real.exp_add, sub_eq_neg_add]

/-- A quotient by a positive number is unchanged when both sides are scaled by a positive real. -/
theorem div_scale (k b : ℝ) (hk : 0 < k) (hb : 0 < b) (a : EReal) : Ideal.div ((k : EReal) * a) ((k : EReal) * (b : EReal)) = Ideal.div a (b : EReal) := by
  have hb' : (b : EReal) ≠ 0 := by exact_mod_cast hb.ne'
  have hkb : ((k * b : ℝ) : EReal) ≠ 0 := by exact_mod_cast (mul_pos hk hb).ne'
  rw [← EReal.coe_mul]
  unfold Ideal.div
  rw [if_neg hkb, if_neg hb', mul_comm (k : EReal) a, mul_assoc, ← EReal.coe_inv, ← EReal.coe_inv, ← EReal.coe_mul]
  congr 2
  field_simp

/-- Two chunks with a running maximum weigh as one pass without: the maxima may be any real numbers. -/
theorem two_chunks {n n' : ℕ} (s : Fin n → ℝ) (t : Fin n' → ℝ) (v : Fin n → EReal) (w : Fin n' → EReal) (m₁ m₂ : ℝ) (z : EReal) :
    (0 * z + ∑ j, v j * Ideal.exp ((s j : EReal) - (m₁ : EReal))) * Ideal.exp ((m₁ : EReal) - (m₂ : EReal)) + ∑ j, w j * Ideal.exp ((t j : EReal) - (m₂ : EReal))
      = ((Real.exp (-m₂) : ℝ) : EReal) * (∑ j, Ideal.exp (s j : EReal) * v j + ∑ j, Ideal.exp (t j : EReal) * w j) := by
  rw [zero_mul, zero_add, mul_add_real _ (Real.exp_pos _).le, mul_sum _ _ (Real.exp_pos _).le, mul_sum _ _ (Real.exp_pos _).le]
  congr 1
  · rw [exp_sub_coe, ← EReal.coe_mul, ← Real.exp_add, mul_comm, mul_sum _ _ (Real.exp_pos _).le]
    refine Finset.sum_congr rfl fun j _ => ?_
    have e : Real.exp (-m₂ + m₁) * Real.exp (-m₁) = Real.exp (-m₂) := by rw [← Real.exp_add]; congr 1; ring
    rw [exp_sub_coe, mul_comm (v j), ← mul_assoc, ← mul_assoc, ← EReal.coe_mul, e, exp_coe, mul_assoc]
  · refine Finset.sum_congr rfl fun j _ => ?_
    rw [exp_sub_coe, mul_comm (w j), ← mul_assoc, exp_coe]

/-- The same of the sums of the weights. -/
theorem two_chunks_sum {n n' : ℕ} (s : Fin n → ℝ) (t : Fin n' → ℝ) (m₁ m₂ : ℝ) (z : EReal) :
    (0 * z + ∑ j, Ideal.exp ((s j : EReal) - (m₁ : EReal))) * Ideal.exp ((m₁ : EReal) - (m₂ : EReal)) + ∑ j, Ideal.exp ((t j : EReal) - (m₂ : EReal))
      = ((Real.exp (-m₂) : ℝ) : EReal) * ((∑ j, Real.exp (s j) + ∑ j, Real.exp (t j) : ℝ) : EReal) := by
  have h := two_chunks s t (fun _ => 1) (fun _ => 1) m₁ m₂ z
  simp only [one_mul, mul_one] at h
  rw [h, EReal.coe_add, coe_sum, coe_sum]
  rfl

/-- The quotient the reference forms in two chunks is the quotient the one pass forms. -/
theorem chunked_quotient {n n' : ℕ} (hn : 0 < n) (s : Fin n → ℝ) (t : Fin n' → ℝ) (v : Fin n → EReal) (w : Fin n' → EReal) (m₁ m₂ : ℝ) (z : EReal) :
    Ideal.div ((0 * z + ∑ j, v j * Ideal.exp ((s j : EReal) - (m₁ : EReal))) * Ideal.exp ((m₁ : EReal) - (m₂ : EReal)) + ∑ j, w j * Ideal.exp ((t j : EReal) - (m₂ : EReal)))
        ((0 * z + ∑ j, Ideal.exp ((s j : EReal) - (m₁ : EReal))) * Ideal.exp ((m₁ : EReal) - (m₂ : EReal)) + ∑ j, Ideal.exp ((t j : EReal) - (m₂ : EReal)))
      = Ideal.div (∑ j, Ideal.exp (s j : EReal) * v j + ∑ j, Ideal.exp (t j : EReal) * w j) (∑ j, Ideal.exp (s j : EReal) + ∑ j, Ideal.exp (t j : EReal)) := by
  haveI : Nonempty (Fin n) := ⟨⟨0, hn⟩⟩
  have hpos : 0 < ∑ j, Real.exp (s j) + ∑ j, Real.exp (t j) :=
    add_pos_of_pos_of_nonneg (Finset.sum_pos (fun j _ => Real.exp_pos _) Finset.univ_nonempty) (Finset.sum_nonneg fun j _ => (Real.exp_pos _).le)
  rw [two_chunks, two_chunks_sum, div_scale _ _ (Real.exp_pos _) hpos, EReal.coe_add, coe_sum, coe_sum]
  rfl

/-- A score, with the scale on the left projection or on the product: the same for real arguments. -/
theorem score_scale {K D : ℕ} (σ : ℝ) (x y : Fin K → ℝ) (q k : Fin K → Fin D → ℝ) :
    (∑ d, (∑ a, (x a : EReal) * ((q a d : EReal) * (σ : EReal))) * ∑ a, (y a : EReal) * (k a d : EReal))
      = (((∑ d, (∑ a, x a * q a d) * ∑ a, y a * k a d) * σ : ℝ) : EReal) := by
  simp only [← EReal.coe_mul, ← coe_sum]
  congr 1
  rw [Finset.sum_mul]
  refine Finset.sum_congr rfl fun d _ => ?_
  have : ∑ a, x a * (q a d * σ) = (∑ a, x a * q a d) * σ := by
    rw [Finset.sum_mul]; exact Finset.sum_congr rfl fun a _ => by ring
  rw [this]; ring

theorem score_plain {K D : ℕ} (σ : ℝ) (x y : Fin K → ℝ) (q k : Fin K → Fin D → ℝ) :
    (∑ d, (∑ a, (x a : EReal) * (q a d : EReal)) * ∑ a, (y a : EReal) * (k a d : EReal)) * (σ : EReal)
      = (((∑ d, (∑ a, x a * q a d) * ∑ a, y a * k a d) * σ : ℝ) : EReal) := by
  simp only [← EReal.coe_mul, ← coe_sum]

/-- A maximum of real numbers, one at least, over `-∞` is a real number. -/
theorem fold_max_real {n : ℕ} (f : Fin n → ℝ) (b : EReal) (hb : b ≠ ⊤) (hn : 0 < n ∨ ∃ r : ℝ, b = r) :
    ∃ r : ℝ, Finset.fold max b (fun k => (f k : EReal)) Finset.univ = r := by
  have htop : Finset.fold max b (fun k => (f k : EReal)) Finset.univ < ⊤ := by
    rw [Finset.fold_max_lt]
    exact ⟨lt_top_iff_ne_top.2 hb, fun k _ => EReal.coe_lt_top _⟩
  have hbot : ⊥ < Finset.fold max b (fun k => (f k : EReal)) Finset.univ := by
    rw [Finset.lt_fold_max]
    rcases hn with hn | ⟨r, rfl⟩
    · exact Or.inr ⟨⟨0, hn⟩, Finset.mem_univ _, EReal.bot_lt_coe _⟩
    · exact Or.inl (EReal.bot_lt_coe _)
  exact ⟨_, (EReal.coe_toReal htop.ne hbot.ne').symm⟩

theorem max_real (a : EReal) (r : ℝ) (ha : a ≠ ⊤) : ∃ q : ℝ, max a (r : EReal) = q := by
  have htop : max a (r : EReal) < ⊤ := max_lt (lt_top_iff_ne_top.2 ha) (EReal.coe_lt_top _)
  have hbot : ⊥ < max a (r : EReal) := lt_max_of_lt_right (EReal.bot_lt_coe _)
  exact ⟨_, (EReal.coe_toReal htop.ne hbot.ne').symm⟩

theorem sum_split {A B N : ℕ} (hN : N = A * B) (f : Fin N → EReal) :
    ∑ x, f x = ∑ a : Fin A, ∑ b : Fin B, f ⟨a.val * B + b.val, by
      have := Nat.mul_le_mul_right B a.isLt; rw [Nat.succ_mul] at this; have := b.isLt; omega⟩ := by
  subst hN
  rw [← Fintype.sum_equiv finProdFinEquiv (fun p => f (finProdFinEquiv p)) f (fun _ => rfl), Fintype.sum_prod_type]
  refine Finset.sum_congr rfl fun a _ => Finset.sum_congr rfl fun b _ => congrArg f (Fin.ext ?_)
  simp [finProdFinEquiv, Nat.mul_comm, Nat.add_comm]

/-! ## The common value of kernel and reference -/

/-- The scale of the scores, the value of the `float32` word the programs hold. -/
def σ : ℝ := 11863283/134217728

/-- A column of head `h`. -/
def col (h : Fin 64) (d : Fin 128) : Fin 8192 := ⟨h.val * 128 + d.val, by omega⟩

def score (x : Fin 2048 → Fin 1024 → ℝ) (q k : Fin 1024 → Fin 8192 → ℝ) (h : Fin 64) (i j : Fin 2048) : ℝ :=
  (∑ d, (∑ a, x i a * q a (col h d)) * ∑ a, x j a * k a (col h d)) * σ

def attn (x : Fin 2048 → Fin 1024 → ℝ) (q k : Fin 1024 → Fin 8192 → ℝ) (v : Fin 1024 → Fin 8192 → EReal) (h : Fin 64) (i : Fin 2048) (d : Fin 128) : EReal :=
  Ideal.div (∑ j, Ideal.exp (score x q k h i j : EReal) * ∑ a, (x j a : EReal) * v a (col h d)) (∑ j, Ideal.exp (score x q k h i j : EReal))

/-- The value that both programs compute. -/
def value (x : Fin 2048 → Fin 1024 → ℝ) (q k : Fin 1024 → Fin 8192 → ℝ) (v : Fin 1024 → Fin 8192 → EReal) (o : Fin 8192 → Fin 1024 → EReal)
    (i : Fin 2048) (d : Fin 1024) : EReal :=
  ∑ n : Fin 8192, attn x q k v ⟨n.val / 128, by omega⟩ i ⟨n.val % 128, by omega⟩ * o n d

end Cert.Attn
end
-- ==== Proof.KRead.lean ====
/-
The kernel's payloads read at an index.
-/
module

public import proofs.«01_k».proof.Proof.Common
public import proofs.«01_k».proof.Proof.Spec
public import Idealize.ShloMosaic.Lib.Pointwise
public import Idealize.ShloMosaic.Lib.Pipeline.ValueKit

@[expose] public section
set_option maxRecDepth 16384
noncomputable section

namespace Cert.RingProof

open Cert.KernelIdeal Cert.KernelIdeal.Gen
open Idealize.ShloMosaic Idealize.SL.Sem
open Idealize.ShloMosaic.TcCoe
open Idealize.ShloMosaic.Pointwise

variable (m : (ℓ : Loc nD τ sig) → Buf (Elt Ideal) ℓ)

/-- The staged `x` is the argument. -/
theorem xS_read (c : Dev nD) (i : Fin 256) (a : Fin 1024) : xS m c (ix3 0 i a) = m ((c : Thread nD τ).loc main_arg0) (ix3 0 i a) := by
  have e0 : win0_0.index (0 : Fin 1) 0 = 0 := by decide +kernel
  have e1 : win0_0.index (0 : Fin 1) 1 = 0 := by decide +kernel
  have e2 : win0_0.index (0 : Fin 1) 2 = 0 := by decide +kernel
  unfold xS
  blk_simp
  blk_ext!
/-- The staged query weight is the argument. -/
theorem wqS_read (c : Dev nD) (a n : Fin 1024) : wqS m c (ix2 a n) = m ((c : Thread nD τ).loc main_arg1) (ix2 a n) := by
  have e0 : win0_1.index (0 : Fin 1) 0 = 0 := by decide +kernel
  have e1 : win0_1.index (0 : Fin 1) 1 = 0 := by decide +kernel
  unfold wqS
  blk_simp
  blk_ext!
/-- The staged output weight is the argument. -/
theorem woS_read (c : Dev nD) (a n : Fin 1024) : woS m c (ix2 a n) = m ((c : Thread nD τ).loc main_arg4) (ix2 a n) := by
  have e0 : win0_2.index (0 : Fin 1) 0 = 0 := by decide +kernel
  have e1 : win0_2.index (0 : Fin 1) 1 = 0 := by decide +kernel
  unfold woS
  blk_simp
  blk_ext!
/-- The staged key weight is the argument. -/
theorem wkS_read (c : Dev nD) (a n : Fin 1024) : wkS m c (ix2 a n) = m ((c : Thread nD τ).loc main_arg2) (ix2 a n) := by
  have e0 : win0_3.index (0 : Fin 1) 0 = 0 := by decide +kernel
  have e1 : win0_3.index (0 : Fin 1) 1 = 0 := by decide +kernel
  unfold wkS
  blk_simp
  blk_ext!
/-- The staged value weight is the argument. -/
theorem wvS_read (c : Dev nD) (a n : Fin 1024) : wvS m c (ix2 a n) = m ((c : Thread nD τ).loc main_arg3) (ix2 a n) := by
  have e0 : win0_4.index (0 : Fin 1) 0 = 0 := by decide +kernel
  have e1 : win0_4.index (0 : Fin 1) 1 = 0 := by decide +kernel
  unfold wvS
  blk_simp
  blk_ext!

/-- The named scale is its rational. -/
theorem named_val : (Named.named κ "s" 0x3DB5#16 : Ideal .bf16) = (Attn.σ : EReal) := IdealRules.named_const.ideal_named_scalar _ _ _ _ rfl

/-- The first third of the joined weights: the scaled query weight. -/
theorem pay1_q (p q r : FVec Ideal S1024x1024 .bf16) (a n : Fin 1024) : k0_pay1 (F := Ideal) p q r (ix2 a ⟨n.val, by omega⟩) = p (ix2 a n) * (Attn.σ : EReal) := by
  rw [← named_val]
  pointwise [k0_pay1]
/-- The second third: the key weight. -/
theorem pay1_k (p q r : FVec Ideal S1024x1024 .bf16) (a n : Fin 1024) : k0_pay1 (F := Ideal) p q r (ix2 a ⟨1024 + n.val, by omega⟩) = q (ix2 a n) := by
  pointwise [k0_pay1]
/-- The last third: the value weight. -/
theorem pay1_v (p q r : FVec Ideal S1024x1024 .bf16) (a n : Fin 1024) : k0_pay1 (F := Ideal) p q r (ix2 a ⟨2048 + n.val, by omega⟩) = r (ix2 a n) := by
  pointwise [k0_pay1]
  rw [dif_neg (by omega), dif_neg (by omega)]
  exact congrArg (fun e => r (ix2 a e)) (Fin.ext (by dsimp only; omega))
/-- The output weight after its cast. -/
theorem pay2_read (p : FVec Ideal S1024x1024 .bf16) (a n : Fin 1024) : k0_pay2 (F := Ideal) p (ix2 a n) = p (ix2 a n) := by
  pointwise [k0_pay2]
/-- A block of queries, entry by entry. -/
theorem pay10_read (w : FVec Ideal S1024x3072 .bf16) (x : FVec Ideal S1x256x1024 .bf16) (i : Fin 256) (n : Fin 1024) :
    k0_pay10 (F := Ideal) w x (ix2 i n) = ∑ a : Fin 1024, x (ix3 0 i a) * w (ix2 a ⟨n.val, by omega⟩) := by
  pointwise [k0_pay10, k0_pay9]
/-- A block of keys, entry by entry. -/
theorem pay11_read (w : FVec Ideal S1024x3072 .bf16) (x : FVec Ideal S1x256x1024 .bf16) (i : Fin 256) (n : Fin 1024) :
    k0_pay11 (F := Ideal) w x (ix2 i n) = ∑ a : Fin 1024, x (ix3 0 i a) * w (ix2 a ⟨1024 + n.val, by omega⟩) := by
  pointwise [k0_pay11, k0_pay9]
/-- A block of values, entry by entry. -/
theorem pay12_read (w : FVec Ideal S1024x3072 .bf16) (x : FVec Ideal S1x256x1024 .bf16) (i : Fin 256) (n : Fin 1024) :
    k0_pay12 (F := Ideal) w x (ix2 i n) = ∑ a : Fin 1024, x (ix3 0 i a) * w (ix2 a ⟨2048 + n.val, by omega⟩) := by
  pointwise [k0_pay12, k0_pay9]
/-- One head: the weighted values over the sum of the weights. -/
theorem pay40_read (q : FVec Ideal S256x128 .bf16) (k v : FVec Ideal S2048x128 .bf16) (i : Fin 256) (d : Fin 128) :
    k0_pay40 (F := Ideal) q k v (ix2 i d)
      = Ideal.div (∑ j : Fin 2048, Ideal.exp (∑ e : Fin 128, q (ix2 i e) * k (ix2 j e)) * v (ix2 j d)) (∑ j : Fin 2048, Ideal.exp (∑ e : Fin 128, q (ix2 i e) * k (ix2 j e))) := by
  pointwise [k0_pay40]
/-- A device adds its own share to what arrived. -/
theorem accum_read (p : FVec Ideal S256x1024 .f32) (r) (i : Fin 256) (d : Fin 1024) : accum p (sendVal r) (ix2 i d) = p (ix2 i d) + r (ix2 i d) := by
  pointwise [accum, sendVal]
/-- The result is the last sum. -/
theorem pay128_read (p : FVec Ideal S256x1024 .f32) (i : Fin 256) (d : Fin 1024) : k0_pay128 (F := Ideal) p (ix3 0 i d) = p (ix2 i d) := by
  pointwise [k0_pay128]
/-- A loaded piece of the queries. -/
theorem readAt_q (Q : (cc0_scratch1 : Ref sig .tc).ty.Contents (Elt Ideal)) (o : Fin 2 → ℕ) (h : ∀ a, o a + S256x128.size a ≤ S2048x1024.size a) (i : Fin 256) (d : Fin 128) (i' : Fin 2048) (d' : Fin 1024)
    (hi : i'.val = o 0 + i.val) (hd : d'.val = o 1 + d.val) :
    qM.view.readAt (Elt Ideal) (Rect.unit (s := S2048x1024) o S256x128.size h).toLoadRect Q (ix2 i d) = Q (ix2 i' d') := by
  rw [show i' = ⟨o 0 + i.val, hi ▸ i'.isLt⟩ from Fin.ext hi, show d' = ⟨o 1 + d.val, hd ▸ d'.isLt⟩ from Fin.ext hd]
  show View.ld Q _ _ = _
  pointwise
/-- A loaded head of the keys. -/
theorem readAt_k (Q : (cc0_scratch2 : Ref sig .tc).ty.Contents (Elt Ideal)) (o : Fin 2 → ℕ) (h : ∀ a, o a + S2048x128.size a ≤ S2048x1024.size a) (i : Fin 2048) (d : Fin 128) (d' : Fin 1024)
    (hi : o 0 = 0) (hd : d'.val = o 1 + d.val) :
    kM.view.readAt (Elt Ideal) (Rect.unit (s := S2048x1024) o S2048x128.size h).toLoadRect Q (ix2 i d) = Q (ix2 i d') := by
  have hi' : i.val = o 0 + i.val := by omega
  conv_rhs => rw [show i = ⟨o 0 + i.val, hi' ▸ i.isLt⟩ from Fin.ext hi', show d' = ⟨o 1 + d.val, hd ▸ d'.isLt⟩ from Fin.ext hd]
  show View.ld Q _ _ = _
  pointwise
/-- A loaded head of the values. -/
theorem readAt_v (Q : (cc0_scratch3 : Ref sig .tc).ty.Contents (Elt Ideal)) (o : Fin 2 → ℕ) (h : ∀ a, o a + S2048x128.size a ≤ S2048x1024.size a) (i : Fin 2048) (d : Fin 128) (d' : Fin 1024)
    (hi : o 0 = 0) (hd : d'.val = o 1 + d.val) :
    vM.view.readAt (Elt Ideal) (Rect.unit (s := S2048x1024) o S2048x128.size h).toLoadRect Q (ix2 i d) = Q (ix2 i d') := by
  have hi' : i.val = o 0 + i.val := by omega
  conv_rhs => rw [show i = ⟨o 0 + i.val, hi' ▸ i.isLt⟩ from Fin.ext hi', show d' = ⟨o 1 + d.val, hd ▸ d'.isLt⟩ from Fin.ext hd]
  show View.ld Q _ _ = _
  pointwise

/-- The heads side by side. -/
def beside (H : Fin 8 → FVec Ideal S256x128 .bf16) : FVec Ideal S256x1024 .bf16 :=
  concatenate S256x1024 1 [⟨S256x128, H 0⟩, ⟨S256x128, H 1⟩, ⟨S256x128, H 2⟩, ⟨S256x128, H 3⟩, ⟨S256x128, H 4⟩, ⟨S256x128, H 5⟩, ⟨S256x128, H 6⟩, ⟨S256x128, H 7⟩]
      concatenates_S256x128_S256x128_S256x128_S256x128_S256x128_S256x128_S256x128_S256x128_S256x1024_d1

set_option maxHeartbeats 2000000 in
/-- A column of the joined heads belongs to one head. -/
theorem beside_read (H : Fin 8 → FVec Ideal S256x128 .bf16) (i : Fin 256) (h : Fin 8) (d : Fin 128) :
    beside H (ix2 i ⟨h.val * 128 + d.val, by omega⟩) = H h (ix2 i d) := by
  fin_cases h <;> pointwise [beside] <;> split_ifs <;>
    first
    | (exfalso; omega)
    | exact congrArg (fun e => H _ (ix2 i e)) (Fin.ext (by dsimp only; omega))

/-- The heads' product with the output weight. -/
theorem combine_read (wo : FVec Ideal S1024x1024 .bf16) (H : Fin 8 → FVec Ideal S256x128 .bf16) (i : Fin 256) (d : Fin 1024) :
    combine wo (H 0) (H 1) (H 2) (H 3) (H 4) (H 5) (H 6) (H 7) (ix2 i d) = ∑ n : Fin 1024, beside H (ix2 i n) * wo (ix2 n d) := by
  show matmul dot_S256x1024_S1024x1024_S256x1024_1_0_0_1_n_n none (beside H) wo (constant S256x1024 .f32 0x00000000#32) (ix2 i d) = _
  pointwise

end Cert.RingProof
end
-- ==== Proof.KValue.lean ====
/-
The kernel's result at an index: the common value.
-/
module

public import proofs.«01_k».proof.Proof.KRead

@[expose] public section
noncomputable section

namespace Cert.RingProof

open Cert.KernelIdeal Cert.KernelIdeal.Gen
open Idealize.ShloMosaic Idealize.SL.Sem
open Idealize.ShloMosaic.TcCoe
open Idealize.ShloMosaic.Pointwise
open Cert.Attn

/-- Row `i` of block `b` of the rows. -/
def row (b : Dev nD) (i : Fin 256) : Fin 2048 := ⟨b.val * 256 + i.val, by have : b.val < 8 := b.isLt; omega⟩
/-- Column `n` of block `c` of the columns. -/
def colB (c : Dev nD) (n : Fin 1024) : Fin 8192 := ⟨c.val * 1024 + n.val, by have : c.val < 8 := c.isLt; omega⟩
/-- Head `g` of device `c`. -/
def headOf (c : Dev nD) (g : Fin 8) : Fin 64 := ⟨c.val * 8 + g.val, by have : c.val < 8 := c.isLt; omega⟩
/-- A column of head `g` among a device's columns. -/
def colH (g : Fin 8) (d : Fin 128) : Fin 1024 := ⟨g.val * 128 + d.val, by omega⟩

/-- A column of a device's head, counted among all columns. -/
theorem colB_colH (c : Dev nD) (g : Fin 8) (d : Fin 128) : colB c (colH g d) = col (headOf c g) d :=
  Fin.ext (by show c.val * 1024 + (g.val * 128 + d.val) = (c.val * 8 + g.val) * 128 + d.val; omega)

/-- The arguments are the blocks of global arrays, the first three of them of real numbers. -/
structure Blocks (m : (ℓ : Loc nD τ sig) → Buf (Elt Ideal) ℓ) (x : Fin 2048 → Fin 1024 → ℝ) (q k : Fin 1024 → Fin 8192 → ℝ) (v : Fin 1024 → Fin 8192 → EReal)
    (o : Fin 8192 → Fin 1024 → EReal) : Prop where
  hx : ∀ c : Dev nD, ∀ i a, m ((c : Thread nD τ).loc main_arg0) (ix3 0 i a) = (x (row c i) a : EReal)
  hq : ∀ c : Dev nD, ∀ a n, m ((c : Thread nD τ).loc main_arg1) (ix2 a n) = (q a (colB c n) : EReal)
  hk : ∀ c : Dev nD, ∀ a n, m ((c : Thread nD τ).loc main_arg2) (ix2 a n) = (k a (colB c n) : EReal)
  hv : ∀ c : Dev nD, ∀ a n, m ((c : Thread nD τ).loc main_arg3) (ix2 a n) = v a (colB c n)
  ho : ∀ c : Dev nD, ∀ n d, m ((c : Thread nD τ).loc main_arg4) (ix2 n d) = o (colB c n) d

variable {m : (ℓ : Loc nD τ sig) → Buf (Elt Ideal) ℓ} {x : Fin 2048 → Fin 1024 → ℝ} {q k : Fin 1024 → Fin 8192 → ℝ} {v : Fin 1024 → Fin 8192 → EReal}
  {o : Fin 8192 → Fin 1024 → EReal} (H : Blocks m x q k v o)
include H

/-- The gathered `x` is the whole `x`. -/
theorem x_val (r : Fin 2048) (n a : Fin 1024) : xS m (headR (ix2 r n)) (ix3 0 ⟨r.val % 256, Nat.mod_lt _ (by norm_num)⟩ a) = (x r a : EReal) := by
  rw [xS_read, H.hx]
  refine congrArg (fun e => ((x e a : ℝ) : EReal)) (Fin.ext ?_)
  show r.val / 256 * 256 + r.val % 256 = r.val
  omega

/-- The queries of a device, with the scale on the weight. -/
theorem q_val (c : Dev nD) (r : Fin 2048) (n : Fin 1024) : QG m c (ix2 r n) = ∑ a, (x r a : EReal) * ((q a (colB c n) : EReal) * (σ : EReal)) := by
  show k0_pay10 (F := Ideal) (W3 m c) (xS m (headR (ix2 r n))) (ix2 ⟨r.val % 256, Nat.mod_lt _ (by norm_num)⟩ n) = _
  rw [pay10_read]
  refine Finset.sum_congr rfl fun a _ => ?_
  rw [x_val H]
  unfold W3
  rw [pay1_q, wqS_read, H.hq]

/-- The keys of a device. -/
theorem k_val (c : Dev nD) (r : Fin 2048) (n : Fin 1024) : KG m c (ix2 r n) = ∑ a, (x r a : EReal) * (k a (colB c n) : EReal) := by
  show k0_pay11 (F := Ideal) (W3 m c) (xS m (headR (ix2 r n))) (ix2 ⟨r.val % 256, Nat.mod_lt _ (by norm_num)⟩ n) = _
  rw [pay11_read]
  refine Finset.sum_congr rfl fun a _ => ?_
  rw [x_val H]
  unfold W3
  rw [pay1_k, wkS_read, H.hk]

/-- The values of a device. -/
theorem v_val (c : Dev nD) (r : Fin 2048) (n : Fin 1024) : VG m c (ix2 r n) = ∑ a, (x r a : EReal) * v a (colB c n) := by
  show k0_pay12 (F := Ideal) (W3 m c) (xS m (headR (ix2 r n))) (ix2 ⟨r.val % 256, Nat.mod_lt _ (by norm_num)⟩ n) = _
  rw [pay12_read]
  refine Finset.sum_congr rfl fun a _ => ?_
  rw [x_val H]
  unfold W3
  rw [pay1_v, wvS_read, H.hv]

/-- One head's attention of a device, one block of rows. -/
theorem head_val (c b : Dev nD) (g : Fin 8) (p : Fin 2 → ℕ) (h) (p' : Fin 2 → ℕ) (h') (hp : p = ![b.val * 256, g.val * 128]) (hp' : p' = ![0, g.val * 128]) (i : Fin 256) (d : Fin 128) :
    headG m c p h p' h' (ix2 i d) = attn x q k v (headOf c g) (row b i) d := by
  have hq (e : Fin 128) := readAt_q (QG m c) p h i e (row b i) (colH g e) (by subst hp; rfl) (by subst hp; rfl)
  have hk (j : Fin 2048) (e : Fin 128) := readAt_k (KG m c) p' h' j e (colH g e) (by subst hp'; rfl) (by subst hp'; rfl)
  have hv (j : Fin 2048) (e : Fin 128) := readAt_v (VG m c) p' h' j e (colH g e) (by subst hp'; rfl) (by subst hp'; rfl)
  have hs (j : Fin 2048) : (∑ e : Fin 128, (∑ a, (x (row b i) a : EReal) * ((q a (col (headOf c g) e) : EReal) * (σ : EReal))) * ∑ a, (x j a : EReal) * (k a (col (headOf c g) e) : EReal))
      = (score x q k (headOf c g) (row b i) j : EReal) :=
    score_scale σ (x (row b i)) (x j) (fun a e => q a (col (headOf c g) e)) (fun a e => k a (col (headOf c g) e))
  unfold headG
  show k0_pay40 (F := Ideal) _ _ _ (ix2 i d) = _
  rw [pay40_read]
  unfold attn
  simp only [hq, hk, hv, q_val H, k_val H, v_val H, colB_colH, hs]

omit H

/-- The block of rows device `c` handles at step `s`. -/
def blkOf (c : Dev nD) (s : Fin 8) : Dev nD := ⟨(c.val + 15 - s.val) % 8, Nat.mod_lt _ (by decide)⟩

/-- The heads of a step. -/
def headsOf (m : (ℓ : Loc nD τ sig) → Buf (Elt Ideal) ℓ) (c : Dev nD) (s : Fin 8) : Fin 8 → FVec Ideal S256x128 .bf16 :=
  ![headG m c (k0_off9 c (BitVec.ofNat 32 s.val)) (k0_off9_inb c s) ![0, 0] inb_S2048x1024_S2048x128_0_0,
    headG m c (k0_off10 c (BitVec.ofNat 32 s.val)) (k0_off10_inb c s) ![0, 128] inb_S2048x1024_S2048x128_0_128,
    headG m c (k0_off11 c (BitVec.ofNat 32 s.val)) (k0_off11_inb c s) ![0, 256] inb_S2048x1024_S2048x128_0_256,
    headG m c (k0_off12 c (BitVec.ofNat 32 s.val)) (k0_off12_inb c s) ![0, 384] inb_S2048x1024_S2048x128_0_384,
    headG m c (k0_off13 c (BitVec.ofNat 32 s.val)) (k0_off13_inb c s) ![0, 512] inb_S2048x1024_S2048x128_0_512,
    headG m c (k0_off14 c (BitVec.ofNat 32 s.val)) (k0_off14_inb c s) ![0, 640] inb_S2048x1024_S2048x128_0_640,
    headG m c (k0_off15 c (BitVec.ofNat 32 s.val)) (k0_off15_inb c s) ![0, 768] inb_S2048x1024_S2048x128_0_768,
    headG m c (k0_off16 c (BitVec.ofNat 32 s.val)) (k0_off16_inb c s) ![0, 896] inb_S2048x1024_S2048x128_0_896]

/-- Where step `s` reads the queries of head 0; the next seven are those of the other heads. -/
theorem rows9 (c : Dev nD) (s : Fin 8) : k0_off9 c (BitVec.ofNat 32 s.val) = ![(blkOf c s).val * 256, 0] := by revert c s; decide +kernel
theorem rows10 (c : Dev nD) (s : Fin 8) : k0_off10 c (BitVec.ofNat 32 s.val) = ![(blkOf c s).val * 256, 128] := by revert c s; decide +kernel
theorem rows11 (c : Dev nD) (s : Fin 8) : k0_off11 c (BitVec.ofNat 32 s.val) = ![(blkOf c s).val * 256, 256] := by revert c s; decide +kernel
theorem rows12 (c : Dev nD) (s : Fin 8) : k0_off12 c (BitVec.ofNat 32 s.val) = ![(blkOf c s).val * 256, 384] := by revert c s; decide +kernel
theorem rows13 (c : Dev nD) (s : Fin 8) : k0_off13 c (BitVec.ofNat 32 s.val) = ![(blkOf c s).val * 256, 512] := by revert c s; decide +kernel
theorem rows14 (c : Dev nD) (s : Fin 8) : k0_off14 c (BitVec.ofNat 32 s.val) = ![(blkOf c s).val * 256, 640] := by revert c s; decide +kernel
theorem rows15 (c : Dev nD) (s : Fin 8) : k0_off15 c (BitVec.ofNat 32 s.val) = ![(blkOf c s).val * 256, 768] := by revert c s; decide +kernel
theorem rows16 (c : Dev nD) (s : Fin 8) : k0_off16 c (BitVec.ofNat 32 s.val) = ![(blkOf c s).val * 256, 896] := by revert c s; decide +kernel

include H

/-- Every head of a step is the attention of its head and rows. -/
theorem heads_val (c : Dev nD) (s : Fin 8) (g : Fin 8) (i : Fin 256) (d : Fin 128) :
    headsOf m c s g (ix2 i d) = attn x q k v (headOf c g) (row (blkOf c s) i) d := by
  fin_cases g
  · exact head_val H c _ 0 _ _ _ _ (rows9 c s) rfl i d
  · exact head_val H c _ 1 _ _ _ _ (rows10 c s) rfl i d
  · exact head_val H c _ 2 _ _ _ _ (rows11 c s) rfl i d
  · exact head_val H c _ 3 _ _ _ _ (rows12 c s) rfl i d
  · exact head_val H c _ 4 _ _ _ _ (rows13 c s) rfl i d
  · exact head_val H c _ 5 _ _ _ _ (rows14 c s) rfl i d
  · exact head_val H c _ 6 _ _ _ _ (rows15 c s) rfl i d
  · exact head_val H c _ 7 _ _ _ _ (rows16 c s) rfl i d

omit H

/-- A device's share of the result: its heads' contraction with its rows of `wo`. -/
def part (x : Fin 2048 → Fin 1024 → ℝ) (q k : Fin 1024 → Fin 8192 → ℝ) (v : Fin 1024 → Fin 8192 → EReal) (o : Fin 8192 → Fin 1024 → EReal)
    (c : Dev nD) (r : Fin 2048) (d : Fin 1024) : EReal :=
  ∑ n : Fin 1024, attn x q k v ⟨(c.val * 1024 + n.val) / 128, by have : c.val < 8 := c.isLt; omega⟩ r ⟨(c.val * 1024 + n.val) % 128, by omega⟩ * o (colB c n) d

/-- The value is the sum of the devices' shares. -/
theorem value_parts (r : Fin 2048) (d : Fin 1024) : value x q k v o r d = ∑ c : Dev nD, part x q k v o c r d :=
  sum_split (A := 8) (B := 1024) (N := 8192) rfl _

include H

/-- A step's product is the device's share for the step's rows. -/
theorem part_val (c : Dev nD) (s : Fin 8) (i : Fin 256) (d : Fin 1024) : PS m c s (ix2 i d) = part x q k v o c (row (blkOf c s) i) d := by
  show combine (F := Ideal) (WO m c) (headsOf m c s 0) (headsOf m c s 1) (headsOf m c s 2) (headsOf m c s 3) (headsOf m c s 4) (headsOf m c s 5) (headsOf m c s 6) (headsOf m c s 7) (ix2 i d) = _
  rw [combine_read]
  refine Finset.sum_congr rfl fun n _ => ?_
  have hn : n = ⟨(⟨n.val / 128, by omega⟩ : Fin 8).val * 128 + (⟨n.val % 128, by omega⟩ : Fin 128).val, by dsimp only; omega⟩ := Fin.ext (by dsimp only; omega)
  have hb : beside (headsOf m c s) (ix2 i n) = headsOf m c s ⟨n.val / 128, by omega⟩ (ix2 i ⟨n.val % 128, by omega⟩) := by
    conv_lhs => rw [hn]
    exact beside_read (headsOf m c s) i ⟨n.val / 128, by omega⟩ ⟨n.val % 128, by omega⟩
  rw [hb, heads_val H]
  unfold WO
  rw [pay2_read, woS_read, H.ho]
  have e1 : headOf c ⟨n.val / 128, by omega⟩ = ⟨(c.val * 1024 + n.val) / 128, by have : c.val < 8 := c.isLt; omega⟩ :=
    Fin.ext (by show c.val * 8 + n.val / 128 = (c.val * 1024 + n.val) / 128; omega)
  have e2 : (⟨n.val % 128, by omega⟩ : Fin 128) = ⟨(c.val * 1024 + n.val) % 128, by omega⟩ := Fin.ext (by show n.val % 128 = (c.val * 1024 + n.val) % 128; omega)
  rw [e1, e2]

omit H

/-- Going once round the ring backwards meets every device once. -/
theorem ring_sum (g : Dev nD → EReal) (c : Dev nD) :
    g c + (g (prv c) + (g (prv (prv c)) + (g (prv (prv (prv c))) + (g (prv (prv (prv (prv c)))) + (g (prv (prv (prv (prv (prv c))))) + (g (prv (prv (prv (prv (prv (prv c))))))
      + g (prv (prv (prv (prv (prv (prv (prv c)))))))))))))  = ∑ e : Dev nD, g e := by
  rw [show (∑ e : Dev nD, g e) = ∑ e : Fin 8, g e from rfl, Fin.sum_univ_eight]
  revert c
  show ∀ c : Fin 8, _
  intro c
  fin_cases c
  · show g 0 + (g 7 + (g 6 + (g 5 + (g 4 + (g 3 + (g 2 + g 1)))))) = _
    ac_rfl
  · show g 1 + (g 0 + (g 7 + (g 6 + (g 5 + (g 4 + (g 3 + g 2)))))) = _
    ac_rfl
  · show g 2 + (g 1 + (g 0 + (g 7 + (g 6 + (g 5 + (g 4 + g 3)))))) = _
    ac_rfl
  · show g 3 + (g 2 + (g 1 + (g 0 + (g 7 + (g 6 + (g 5 + g 4)))))) = _
    ac_rfl
  · show g 4 + (g 3 + (g 2 + (g 1 + (g 0 + (g 7 + (g 6 + g 5)))))) = _
    ac_rfl
  · show g 5 + (g 4 + (g 3 + (g 2 + (g 1 + (g 0 + (g 7 + g 6)))))) = _
    ac_rfl
  · show g 6 + (g 5 + (g 4 + (g 3 + (g 2 + (g 1 + (g 0 + g 7)))))) = _
    ac_rfl
  · show g 7 + (g 6 + (g 5 + (g 4 + (g 3 + (g 2 + (g 1 + g 0)))))) = _
    ac_rfl

/-- One more step of the running sum. -/
theorem RS_read (m : (ℓ : Loc nD τ sig) → Buf (Elt Ideal) ℓ) (c : Dev nD) (s : ℕ) (h : s + 1 < 8) (i : Fin 256) (d : Fin 1024) :
    RS m (s + 1) c (ix2 i d) = PS m c ⟨s + 1, h⟩ (ix2 i d) + RS m s (prv c) (ix2 i d) := by
  rw [RS_succ m c s h, accum_read]

include H

/-- The last running sum is the value at the device's rows. -/
theorem sum_val (c : Dev nD) (i : Fin 256) (d : Fin 1024) : RS m 7 c (ix2 i d) = value x q k v o (row c i) d := by
  rw [value_parts, ← ring_sum (fun e => part x q k v o e (row c i) d) c]
  rw [RS_read m c 6 (by norm_num), RS_read m _ 5 (by norm_num), RS_read m _ 4 (by norm_num), RS_read m _ 3 (by norm_num), RS_read m _ 2 (by norm_num), RS_read m _ 1 (by norm_num),
    RS_read m _ 0 (by norm_num)]
  show _ + (_ + (_ + (_ + (_ + (_ + (_ + PS m _ 0 (ix2 i d))))))) = _
  simp only [part_val H]
  have h0 : blkOf c ⟨7, by norm_num⟩ = c := by revert c; decide
  have h1 : blkOf (prv c) ⟨6, by norm_num⟩ = c := by revert c; decide
  have h2 : blkOf (prv (prv c)) ⟨5, by norm_num⟩ = c := by revert c; decide
  have h3 : blkOf (prv (prv (prv c))) ⟨4, by norm_num⟩ = c := by revert c; decide
  have h4 : blkOf (prv (prv (prv (prv c)))) ⟨3, by norm_num⟩ = c := by revert c; decide
  have h5 : blkOf (prv (prv (prv (prv (prv c))))) ⟨2, by norm_num⟩ = c := by revert c; decide
  have h6 : blkOf (prv (prv (prv (prv (prv (prv c)))))) ⟨1, by norm_num⟩ = c := by revert c; decide
  have h7 : blkOf (prv (prv (prv (prv (prv (prv (prv c))))))) 0 = c := by revert c; decide
  rw [h0, h1, h2, h3, h4, h5, h6, h7]

/-- What a device returns is the value at its rows. -/
theorem out_val (c : Dev nD) (i : Fin 256) (d : Fin 1024) : OUT m c (ix3 0 i d) = value x q k v o (row c i) d := by
  unfold OUT
  rw [pay128_read, sum_val H]

end Cert.RingProof
end
-- ==== Proof.RefStages.lean ====
/-
The reference in stages: projections, scores, running maximum, running sums, result.
-/
module

public import proofs.«01_k».proof.Proof.Gen.ReferenceIdeal.Run
public import Idealize.ShloMosaic.PureOps.Ideal

@[expose] public section
noncomputable section

namespace Cert.RefStages

open Idealize.ShloMosaic Idealize.SL.Sem
open Cert.ReferenceIdeal Cert.ReferenceIdeal.Gen Cert.ReferenceIdeal.Facts

/-- The type of `x`. -/
abbrev TX := FVec Ideal S1x2048x1024 .bf16
/-- The type of the three projections' weights. -/
abbrev TW := FVec Ideal S1024x8192 .bf16
/-- The type of the output weight. -/
abbrev TO := FVec Ideal S8192x1024 .bf16

/-- `x` times a weight, in heads. -/
def proj (X : TX) (W : TW) : FVec Ideal S1x2048x64x128 .f32 :=
  shapeCast S1x2048x64x128 (Host.dotGeneral dot_S1x2048x1024_S1024x8192_S1x2048x8192_2_0_01_1_n_n none (extf .f32 X bitsLt_bf16_f32) (extf .f32 W bitsLt_bf16_f32) : FVec Ideal S1x2048x8192 .f32)
    shapeCasts_S1x2048x8192_S1x2048x64x128

/-- The first half of the keys. -/
def chunk1 (A : FVec Ideal S1x2048x64x128 .f32) : FVec Ideal S1x1024x64x128 .f32 :=
  extractStridedSlice S1x1024x64x128 ![0, 0, 0, 0] A slices_S1x2048x64x128_S1x1024x64x128_0_0_0_0
/-- The second half of the keys. -/
def chunk2 (A : FVec Ideal S1x2048x64x128 .f32) : FVec Ideal S1x1024x64x128 .f32 :=
  extractStridedSlice S1x1024x64x128 ![0, 1024, 0, 0] A slices_S1x2048x64x128_S1x1024x64x128_0_1024_0_0

/-- The scaled scores against a chunk. -/
def scores (Q : FVec Ideal S1x2048x64x128 .f32) (Kc : FVec Ideal S1x1024x64x128 .f32) : FVec Ideal S1x64x2048x1024 .f32 :=
  mulf (Host.dotGeneral dot_S1x2048x64x128_S1x1024x64x128_S1x64x2048x1024_3_3_1_1_02_02 none Q Kc)
    (broadcastInDim S1x64x2048x1024 ![] bcast_S_S1x64x2048x1024 (constant S_ .f32 0x3DB504F3#32))

/-- The running maximum after a chunk. -/
def nextMax (M : FVec Ideal S1x64x2048x1 .f32) (s : FVec Ideal S1x64x2048x1024 .f32) : FVec Ideal S1x64x2048x1 .f32 :=
  maximumf M (broadcastInDim S1x64x2048x1 ![0, 1, 2] bcast_S1x64x2048_S1x64x2048x1_0_1_2
    (Host.reduce FloatOps.maximumf s (constant S_ .f32 0xFF800000#32) reducesTo_S1x64x2048x1024_S1x64x2048_d3 h_S_ : FVec Ideal S1x64x2048 .f32))

/-- The factor by which what was summed is rescaled. -/
def rescale (M M' : FVec Ideal S1x64x2048x1 .f32) : FVec Ideal S1x64x2048x1 .f32 := Host.exp (subf M M')

/-- The weights of a chunk's keys. -/
def weights (s : FVec Ideal S1x64x2048x1024 .f32) (M : FVec Ideal S1x64x2048x1 .f32) : FVec Ideal S1x64x2048x1024 .f32 :=
  Host.exp (subf s (broadcastInDim S1x64x2048x1024 ![0, 1, 2, 3] bcast_S1x64x2048x1_S1x64x2048x1024_0_1_2_3 M))

/-- The running sum after a chunk. -/
def nextSum (l a : FVec Ideal S1x64x2048x1 .f32) (p : FVec Ideal S1x64x2048x1024 .f32) : FVec Ideal S1x64x2048x1 .f32 :=
  addf (mulf l a) (broadcastInDim S1x64x2048x1 ![0, 1, 2] bcast_S1x64x2048_S1x64x2048x1_0_1_2
    (Host.reduceAdd p (constant S_ .f32 0x00000000#32) reducesTo_S1x64x2048x1024_S1x64x2048_d3 h_S_ : FVec Ideal S1x64x2048 .f32))

/-- A number of each row, spread over the row's entries. -/
def perRow (a : FVec Ideal S1x64x2048x1 .f32) : FVec Ideal S1x2048x64x128 .f32 :=
  broadcastInDim S1x2048x64x128 ![0, 1, 2, 3] bcast_S1x2048x64x1_S1x2048x64x128_0_1_2_3
    (transpose S1x2048x64x1 [0, 2, 1, 3] a transposes_S1x64x2048x1_S1x2048x64x1_0_2_1_3 : FVec Ideal S1x2048x64x1 .f32)

/-- The running output after a chunk. -/
def nextOut (o : FVec Ideal S1x2048x64x128 .f32) (a : FVec Ideal S1x64x2048x1 .f32) (Vc : FVec Ideal S1x1024x64x128 .f32) (p : FVec Ideal S1x64x2048x1024 .f32) :
    FVec Ideal S1x2048x64x128 .f32 :=
  addf (mulf o (perRow a)) (transpose S1x2048x64x128 [0, 3, 1, 2]
    (Host.dotGeneral dot_S1x1024x64x128_S1x64x2048x1024_S1x64x128x2048_1_3_3_2_02_01 none Vc p : FVec Ideal S1x64x128x2048 .f32) transposes_S1x64x128x2048_S1x2048x64x128_0_3_1_2)

section
variable (X : TX) (WQ WK WV : TW) (WO : TO)

/-- Before the first chunk: the maximum, the sum and the output. -/
def M0 : FVec Ideal S1x64x2048x1 .f32 := broadcastInDim S1x64x2048x1 ![] bcast_S_S1x64x2048x1 (constant S_ .f32 0xFF800000#32)
def L0 : FVec Ideal S1x64x2048x1 .f32 := broadcastInDim S1x64x2048x1 ![] bcast_S_S1x64x2048x1 (constant S_ .f32 0x00000000#32)
def O0 : FVec Ideal S1x2048x64x128 .f32 := broadcastInDim S1x2048x64x128 ![] bcast_S_S1x2048x64x128 (constant S_ .f32 0x00000000#32)
def s1 := scores (proj X WQ) (chunk1 (proj X WK))
def s2 := scores (proj X WQ) (chunk2 (proj X WK))
def M1 := nextMax M0 (s1 X WQ WK)
def M2 := nextMax (M1 X WQ WK) (s2 X WQ WK)
def a1 := rescale M0 (M1 X WQ WK)
def a2 := rescale (M1 X WQ WK) (M2 X WQ WK)
def p1 := weights (s1 X WQ WK) (M1 X WQ WK)
def p2 := weights (s2 X WQ WK) (M2 X WQ WK)
def L1 := nextSum L0 (a1 X WQ WK) (p1 X WQ WK)
def L2 := nextSum (L1 X WQ WK) (a2 X WQ WK) (p2 X WQ WK)
def O1 := nextOut O0 (a1 X WQ WK) (chunk1 (proj X WV)) (p1 X WQ WK)
def O2 := nextOut (O1 X WQ WK WV) (a2 X WQ WK) (chunk2 (proj X WV)) (p2 X WQ WK)
/-- The attention's output, in heads. -/
def att : FVec Ideal S1x2048x64x128 .f32 := Host.divf (O2 X WQ WK WV) (perRow (L2 X WQ WK))
/-- The result. -/
def res : FVec Ideal S1x2048x1024 .f32 :=
  Host.dotGeneral dot_S1x2048x8192_S8192x1024_S1x2048x1024_2_0_01_1_n_n none
    (shapeCast S1x2048x8192 (att X WQ WK WV) shapeCasts_S1x2048x64x128_S1x2048x8192 : FVec Ideal S1x2048x8192 .f32) (extf .f32 WO bitsLt_bf16_f32 : FVec Ideal S8192x1024 .f32)
end

set_option maxRecDepth 200000 in
set_option maxHeartbeats 4000000 in
theorem res_main_eq (m : (ℓ : Loc nD τ sig) → Buf (Elt Ideal) ℓ) (c : Dev nD) :
    Value.res_main_v64 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v64
  unfold res att O2 O1 L2 L1 p2 p1 a2 a1 M2 M1 s2 s1 O0 L0 M0
  unfold nextOut perRow nextSum weights rescale nextMax scores chunk1 chunk2 proj
  rfl

end Cert.RefStages
end
-- ==== Proof.RefRead.lean ====
/-
The reference's stages read at an index.
-/
module

public import proofs.«01_k».proof.Proof.RefStages
public import Idealize.ShloMosaic.Lib.Pointwise
public import Idealize.ShloMosaic.Lib.IdealHost
public import proofs.«01_k».proof.Proof.Spec

@[expose] public section
set_option maxRecDepth 16384
noncomputable section

namespace Cert.RefStages

open Idealize.ShloMosaic Idealize.SL.Sem
open Idealize.ShloMosaic.Pointwise
open Cert.ReferenceIdeal Cert.ReferenceIdeal.Gen Cert.ReferenceIdeal.Facts

/-- A projection, entry by entry. -/
theorem proj_read (X : TX) (W : TW) (i : Fin 2048) (h : Fin 64) (d : Fin 128) :
    proj X W (ix4 0 i h d) = ∑ x : Fin 1024, X (ix3 0 i x) * W (ix2 x ⟨h.val * 128 + d.val, by omega⟩) := by
  pointwise [proj]
/-- The first half of the keys. -/
theorem chunk1_read (A) (i : Fin 1024) (h : Fin 64) (d : Fin 128) : chunk1 A (ix4 0 i h d) = A (ix4 0 ⟨i.val, by omega⟩ h d) := by
  pointwise [chunk1]
/-- The second half of the keys. -/
theorem chunk2_read (A) (i : Fin 1024) (h : Fin 64) (d : Fin 128) : chunk2 A (ix4 0 i h d) = A (ix4 0 ⟨1024 + i.val, by omega⟩ h d) := by
  pointwise [chunk2]
/-- A score, before it is compared. -/
theorem scores_read (Q K) (i : Fin 2048) (j : Fin 1024) (h : Fin 64) :
    scores Q K (ix4 0 h i j) = (∑ x : Fin 128, Q (ix4 0 i h x) * K (ix4 0 j h x)) * Ideal.ofBits .f32 0x3DB504F3#32 := by
  pointwise [scores]

/-- A row's maximum, in any length. -/
theorem rowMax_read {a b c n : ℕ} (s : FVec Ideal ⟨4, ![a, b, c, n]⟩ .f32) (z : BitVec 32)
    (hr : (⟨4, ![a, b, c, n]⟩ : Shape).ReducesTo [3] ⟨3, ![a, b, c]⟩) (hu) (i : Fin a) (j : Fin b) (k : Fin c) :
    Host.reduce FloatOps.maximumf s (constant (F := Ideal) S_ .f32 z) hr hu (ix3 i j k)
      = Finset.fold max (Ideal.ofBits .f32 z) (fun x : Fin n => s (ix4 i j k x)) Finset.univ := by
  rw [Host.reduce_eq_fold, hr.fold_fiber_r4_a3]
  rfl

/-- The rescaling factor of a row. -/
theorem resc_read (M s) (i : Fin 2048) (h : Fin 64) : rescale M s (ix4 0 h i 0) = Ideal.exp (M (ix4 0 h i 0) - s (ix4 0 h i 0)) := by
  pointwise [rescale]
/-- The weight of a key. -/
theorem weights_read (M s) (i : Fin 2048) (j : Fin 1024) (h : Fin 64) :
    weights s M (ix4 0 h i j) = Ideal.exp (s (ix4 0 h i j) - M (ix4 0 h i 0)) := by
  pointwise [weights]
/-- The running sum of a row after a chunk. -/
theorem sum_read (l a p) (i : Fin 2048) (h : Fin 64) :
    nextSum l a p (ix4 0 h i 0) = l (ix4 0 h i 0) * a (ix4 0 h i 0) + ∑ x : Fin 1024, p (ix4 0 h i x) := by
  pointwise [nextSum]
/-- A row's number, spread over the entries of the row. -/
theorem perRow_read (a) (i : Fin 2048) (h : Fin 64) (d : Fin 128) : perRow a (ix4 0 i h d) = a (ix4 0 h i 0) := by
  pointwise [perRow]
/-- The running output after a chunk. -/
theorem out_read (o a V p) (i : Fin 2048) (h : Fin 64) (d : Fin 128) :
    nextOut o a V p (ix4 0 i h d) = o (ix4 0 i h d) * perRow a (ix4 0 i h d) + ∑ x : Fin 1024, V (ix4 0 x h d) * p (ix4 0 h i x) := by
  pointwise [nextOut]
/-- The attention is a quotient. -/
theorem att_read (X Q K V) (i : Fin 2048) (h : Fin 64) (d : Fin 128) :
    att X Q K V (ix4 0 i h d) = Ideal.div (O2 X Q K V (ix4 0 i h d)) (perRow (L2 X Q K) (ix4 0 i h d)) := by
  pointwise [att]
/-- The result is a product over all heads' columns. -/
theorem res_read (X Q K V O) (i : Fin 2048) (d : Fin 1024) :
    res X Q K V O (ix3 0 i d) = ∑ x : Fin 8192, att X Q K V (ix4 0 i ⟨x.val / 128, by omega⟩ ⟨x.val % 128, by omega⟩) * O (ix2 x d) := by
  pointwise [res]
/-- The first running maximum. -/
theorem M0_read (i : Fin 2048) (h : Fin 64) : M0 (ix4 0 h i 0) = Ideal.ofBits .f32 0xFF800000#32 := by
  pointwise [M0]
/-- The first running output is zero. -/
theorem O0_read (i : Fin 2048) (h : Fin 64) (d : Fin 128) : O0 (ix4 0 i h d) = 0 := by
  pointwise [O0]
/-- The first running sum is zero. -/
theorem L0_read (i : Fin 2048) (h : Fin 64) : L0 (ix4 0 h i 0) = 0 := by
  pointwise [L0]

/-- The word of minus infinity is the bottom element. -/
theorem ninf : Ideal.ofBits .f32 0xFF800000#32 = ⊥ := by
  simp [Ideal.ofBits, Ideal.ieee, -EReal.coe_mul]

/-- The literal of the scale. -/
theorem scale_val : Ideal.ofBits .f32 0x3DB504F3#32 = ((11863283/134217728 : ℝ) : EReal) := by
  simp [Ideal.ofBits, Ideal.ieee, -EReal.coe_mul]
  norm_num

/-- A maximum with a row's number, entry by entry. -/
theorem max_spread (M : FVec Ideal S1x64x2048x1 .f32) (R : FVec Ideal S1x64x2048 .f32) (i : Fin 2048) (h : Fin 64) :
    maximumf M (broadcastInDim S1x64x2048x1 ![0, 1, 2] bcast_S1x64x2048_S1x64x2048x1_0_1_2 R) (ix4 0 h i 0) = max (M (ix4 0 h i 0)) (R (ix3 0 h i)) := by
  pointwise

/-- The running maximum of a row after a chunk. -/
theorem max_read (M s) (i : Fin 2048) (h : Fin 64) :
    nextMax M s (ix4 0 h i 0) = max (M (ix4 0 h i 0)) (Finset.fold max (Ideal.ofBits .f32 0xFF800000#32) (fun x : Fin 1024 => s (ix4 0 h i x)) Finset.univ) := by
  unfold nextMax
  rw [max_spread, rowMax_read]

end Cert.RefStages
end
-- ==== Proof.RefValue.lean ====
/-
The reference's result at an index: the common value.
-/
module

public import proofs.«01_k».proof.Proof.RefRead

@[expose] public section
set_option maxRecDepth 2000
noncomputable section

namespace Cert.RefStages

open Idealize.ShloMosaic Idealize.SL.Sem
open Idealize.ShloMosaic.Pointwise
open Cert.ReferenceIdeal Cert.Attn

variable {X : TX} {WQ WK WV : TW} {WO : TO} {x : Fin 2048 → Fin 1024 → ℝ} {q k : Fin 1024 → Fin 8192 → ℝ}

/-- A score of the reference is real, and which real it is. -/
theorem scores_val (K : FVec Ideal S1x1024x64x128 .f32) (hX : ∀ i a, X (ix3 0 i a) = x i a) (hQ : ∀ a n, WQ (ix2 a n) = q a n) (hK : ∀ a n, WK (ix2 a n) = k a n)
    (i : Fin 2048) (j : Fin 1024) (j' : Fin 2048) (h : Fin 64) (hj : ∀ d, K (ix4 0 j h d) = proj X WK (ix4 0 j' h d)) :
    scores (proj X WQ) K (ix4 0 h i j) = (score x q k h i j' : EReal) := by
  rw [scores_read, scale_val]
  simp only [hj, proj_read, hX, hQ, hK]
  exact score_plain σ (x i) (x j') (fun a d => q a (col h d)) (fun a d => k a (col h d))

/-- The scores against the first half. -/
theorem s1_val (hX : ∀ i a, X (ix3 0 i a) = x i a) (hQ : ∀ a n, WQ (ix2 a n) = q a n) (hK : ∀ a n, WK (ix2 a n) = k a n) (i : Fin 2048) (j : Fin 1024) (h : Fin 64) :
    s1 X WQ WK (ix4 0 h i j) = (score x q k h i ⟨j.val, by omega⟩ : EReal) :=
  scores_val (chunk1 (proj X WK)) hX hQ hK i j ⟨j.val, by omega⟩ h (fun d => chunk1_read (proj X WK) j h d)
/-- The scores against the second half. -/
theorem s2_val (hX : ∀ i a, X (ix3 0 i a) = x i a) (hQ : ∀ a n, WQ (ix2 a n) = q a n) (hK : ∀ a n, WK (ix2 a n) = k a n) (i : Fin 2048) (j : Fin 1024) (h : Fin 64) :
    s2 X WQ WK (ix4 0 h i j) = (score x q k h i ⟨1024 + j.val, by omega⟩ : EReal) :=
  scores_val (chunk2 (proj X WK)) hX hQ hK i j ⟨1024 + j.val, by omega⟩ h (fun d => chunk2_read (proj X WK) j h d)

/-- The running maximum after a chunk of real scores is real. -/
theorem nextMax_val (M : FVec Ideal S1x64x2048x1 .f32) (s : FVec Ideal S1x64x2048x1024 .f32) (i : Fin 2048) (h : Fin 64) (f : Fin 1024 → ℝ) (hs : ∀ j, s (ix4 0 h i j) = (f j : EReal)) (hM : M (ix4 0 h i 0) ≠ ⊤) :
    ∃ r : ℝ, nextMax M s (ix4 0 h i 0) = (r : EReal) := by
  rw [max_read, ninf]
  simp only [hs]
  obtain ⟨r, hr⟩ := fold_max_real f ⊥ bot_ne_top (Or.inl (by norm_num))
  rw [hr]
  exact max_real _ r hM

/-- The attention in two chunks is the attention in one pass. -/
theorem att_val (hX : ∀ i a, X (ix3 0 i a) = x i a) (hQ : ∀ a n, WQ (ix2 a n) = q a n) (hK : ∀ a n, WK (ix2 a n) = k a n) (i : Fin 2048) (h : Fin 64) (d : Fin 128) :
    att X WQ WK WV (ix4 0 i h d) = attn x q k (fun a n => WV (ix2 a n)) h i d := by
  obtain ⟨m₁, h₁⟩ : ∃ r : ℝ, M1 X WQ WK (ix4 0 h i 0) = (r : EReal) := by
    refine nextMax_val M0 (s1 X WQ WK) i h (fun j => score x q k h i ⟨j.val, by omega⟩) (fun j => s1_val hX hQ hK i j h) ?_
    rw [M0_read, ninf]; exact bot_ne_top
  obtain ⟨m₂, h₂⟩ : ∃ r : ℝ, M2 X WQ WK (ix4 0 h i 0) = (r : EReal) := by
    refine nextMax_val (M1 X WQ WK) (s2 X WQ WK) i h (fun j => score x q k h i ⟨1024 + j.val, by omega⟩) (fun j => s2_val hX hQ hK i j h) ?_
    rw [h₁]; exact EReal.coe_ne_top _
  rw [att_read, perRow_read]
  unfold O2 L2
  rw [out_read, sum_read, perRow_read]
  unfold O1 L1
  rw [out_read, sum_read, perRow_read, O0_read, L0_read]
  unfold p1 p2 a2
  simp only [weights_read, resc_read, s1_val hX hQ hK, s2_val hX hQ hK, h₁, h₂, chunk1_read, chunk2_read]
  rw [chunked_quotient (n := 1024) (n' := 1024) (by norm_num)]
  unfold attn
  rw [Fin.sum_univ_two_halves (N := 2048) 1024 1024 rfl, Fin.sum_univ_two_halves (N := 2048) 1024 1024 rfl]
  simp only [proj_read, hX, col]

/-- The reference's result, entry by entry. -/
theorem res_val (hX : ∀ i a, X (ix3 0 i a) = x i a) (hQ : ∀ a n, WQ (ix2 a n) = q a n) (hK : ∀ a n, WK (ix2 a n) = k a n) (i : Fin 2048) (d : Fin 1024) :
    res X WQ WK WV WO (ix3 0 i d) = value x q k (fun a n => WV (ix2 a n)) (fun n e => WO (ix2 n e)) i d := by
  rw [res_read]
  exact Finset.sum_congr rfl fun n _ => by rw [att_val hX hQ hK]

end Cert.RefStages
end
-- ==== Proof.Algebraic.lean ====
/-
The value claim: the devices' results are the blocks of the reference's result.
-/
module

public import proofs.«01_k».proof.Defs
public import proofs.«01_k».proof.Proof.KValue
public import proofs.«01_k».proof.Proof.RefValue
public import proofs.«01_k».proof.Proof.Frames
public import Idealize.ShloMosaic.Lib.Layout
public import Idealize.ShloMosaic.Lib.LayoutAt
public import Idealize.ShloMosaic.Lib.Pipeline.ValueKit

@[expose] public section
noncomputable section

namespace Cert.RingProof

open Cert.KernelIdeal Cert.KernelIdeal.Gen
open Idealize.ShloMosaic Idealize.SL.Sem
open Idealize.ShloMosaic.TcCoe
open Idealize.ShloMosaic.Pointwise

/-! ## Blocks -/

/-- Device `c`'s block of rows of a whole array, entry by entry. -/
theorem block_rows3 {α : Type} (c : Fin 8) (X : (⟨3, ![1, 2048, 1024]⟩ : Shape).Idx → α) (h) (i : Fin 256) (a : Fin 1024) :
    Layout.block ⟨3, ![1, 256, 1024]⟩ ⟨3, ![1, 2048, 1024]⟩ 1 8 c X h (ix3 0 i a) = X (ix3 0 (row c i) a) := by
  have hr : (row c i).val = c.val * 256 + i.val := rfl
  rw [Layout.block_apply]
  refine congrArg X ?_
  shard_ext
/-- Device `c`'s block of columns of a weight, entry by entry. -/
theorem block_cols {α : Type} (c : Fin 8) (X : (⟨2, ![1024, 8192]⟩ : Shape).Idx → α) (h) (a n : Fin 1024) :
    Layout.block ⟨2, ![1024, 1024]⟩ ⟨2, ![1024, 8192]⟩ 1 8 c X h (ix2 a n) = X (ix2 a (colB c n)) := by
  have hr : (colB c n).val = c.val * 1024 + n.val := rfl
  rw [Layout.block_apply]
  refine congrArg X ?_
  shard_ext
/-- Device `c`'s block of rows of the output weight, entry by entry. -/
theorem block_rows {α : Type} (c : Fin 8) (X : (⟨2, ![8192, 1024]⟩ : Shape).Idx → α) (h) (n a : Fin 1024) :
    Layout.block ⟨2, ![1024, 1024]⟩ ⟨2, ![8192, 1024]⟩ 0 8 c X h (ix2 n a) = X (ix2 (colB c n) a) := by
  have hr : (colB c n).val = c.val * 1024 + n.val := rfl
  rw [Layout.block_apply]
  refine congrArg X ?_
  shard_ext

/-! ## The precondition -/

/-- The shapes that the precondition states on one device. -/
theorem preK : Cert.Pre_scores_finite_KernelIdeal.Facts where
  bcast_S_S1x256x1024 := by decide
  bcast_S_S1024x1024 := by decide
/-- The shapes that the precondition states on the whole arrays. -/
theorem preR : Cert.Pre_scores_finite_ReferenceIdeal.Facts where
  bcast_S_S1x2048x1024 := by decide
  bcast_S_S1024x8192 := by decide

/-- The bfloat16 word of infinity is the top element. -/
theorem inf_val : Ideal.ofBits .bf16 0x7F80#16 = ⊤ := by
  simp [Ideal.ofBits, Ideal.ieee, -EReal.coe_mul]

/-- A comparison that reads one is true. -/
theorem ofBool_one {p : Prop} [Decidable p] (h : BitVec.ofBool (decide p) = 1#1) : p := by
  by_contra hp
  rw [decide_eq_false hp] at h
  exact absurd h (by decide)

/-- What has an absolute value below infinity is a real number. -/
theorem real_of_abs {x : EReal} (h : FloatOps.absf (F := Ideal) (φ := .bf16) x < Ideal.ofBits .bf16 0x7F80#16) : ∃ r : ℝ, x = (r : EReal) := by
  rw [inf_val] at h
  change (max x (-x) : EReal) < ⊤ at h
  induction x with
  | bot => exact absurd h (by simp)
  | coe r => exact ⟨r, rfl⟩
  | top => exact absurd h (by simp)

section
attribute [local instance] preK
/-- Under the precondition a device's entries of `x` are real. -/
theorem fin0 (A0 : FVec Ideal S1x256x1024 .bf16) (A1 A2 A3 A4 : FVec Ideal S1024x1024 .bf16)
    (h : (Cert.Pre_scores_finite_KernelIdeal.fn (F := Ideal) A0 A1 A2 A3 A4).1 = fun _ => 1#1) (i : Fin 256) (a : Fin 1024) :
    ∃ r : ℝ, A0 (ix3 0 i a) = (r : EReal) := by
  have h' := congrFun h (ix3 0 i a)
  pointwise [Cert.Pre_scores_finite_KernelIdeal.fn] at h'
  exact real_of_abs (ofBool_one h')
/-- Under the precondition a device's entries of the query weight are real. -/
theorem fin1 (A0 : FVec Ideal S1x256x1024 .bf16) (A1 A2 A3 A4 : FVec Ideal S1024x1024 .bf16)
    (h : (Cert.Pre_scores_finite_KernelIdeal.fn (F := Ideal) A0 A1 A2 A3 A4).2.1 = fun _ => 1#1) (i a : Fin 1024) :
    ∃ r : ℝ, A1 (ix2 i a) = (r : EReal) := by
  have h' := congrFun h (ix2 i a)
  pointwise [Cert.Pre_scores_finite_KernelIdeal.fn] at h'
  exact real_of_abs (ofBool_one h')
/-- Under the precondition a device's entries of the key weight are real. -/
theorem fin2 (A0 : FVec Ideal S1x256x1024 .bf16) (A1 A2 A3 A4 : FVec Ideal S1024x1024 .bf16)
    (h : (Cert.Pre_scores_finite_KernelIdeal.fn (F := Ideal) A0 A1 A2 A3 A4).2.2 = fun _ => 1#1) (i a : Fin 1024) :
    ∃ r : ℝ, A2 (ix2 i a) = (r : EReal) := by
  have h' := congrFun h (ix2 i a)
  pointwise [Cert.Pre_scores_finite_KernelIdeal.fn] at h'
  exact real_of_abs (ofBool_one h')
end

/-! ## The output -/

variable (m : (ℓ : Loc nD τ sig) → Buf (Elt Ideal) ℓ) (g : Dev nD → PrngReg)

/-- The launch writes its whole result array once. -/
theorem final_out (c : Dev nD) : finalA m g c (5 : Fin 6) = OUT m c := by
  unfold finalA
  refine (dats m g 0 c).arrAt_eq_of_after_last (5 : Fin 6) t0_0 (by decide +kernel) _ fun j => ?_
  blk_simp
  rfl

/-- Every row lies in some device's block. -/
theorem row_split (r : Fin 2048) : ∃ (c : Fin 8) (i : Fin 256), row c i = r :=
  ⟨⟨r.val / 256, by omega⟩, ⟨r.val % 256, by omega⟩, Fin.ext (by simp only [row]; omega)⟩

/-- Every column lies in some device's block. -/
theorem col_split (n : Fin 8192) : ∃ (c : Fin 8) (i : Fin 1024), colB c i = n :=
  ⟨⟨n.val / 1024, by omega⟩, ⟨n.val % 1024, by omega⟩, Fin.ext (by simp only [colB]; omega)⟩

/-- From the blocks and the precondition: the real entries, and the result's blocks. -/
theorem out_blocks (X : RefStages.TX) (WQ WK WV : RefStages.TW) (WO : RefStages.TO) (h0 h1 h2 h3 h4)
    (hpre : letI := preK; Cert.Pre_KernelIdeal_scores_finite_KernelIdeal m)
    (hb : ∀ c : Dev nD,
      m ((c : Thread nD τ).loc main_arg0) = Layout.block ⟨3, ![1, 256, 1024]⟩ ⟨3, ![1, 2048, 1024]⟩ 1 8 c X h0
      ∧ m ((c : Thread nD τ).loc main_arg1) = Layout.block ⟨2, ![1024, 1024]⟩ ⟨2, ![1024, 8192]⟩ 1 8 c WQ h1
      ∧ m ((c : Thread nD τ).loc main_arg2) = Layout.block ⟨2, ![1024, 1024]⟩ ⟨2, ![1024, 8192]⟩ 1 8 c WK h2
      ∧ m ((c : Thread nD τ).loc main_arg3) = Layout.block ⟨2, ![1024, 1024]⟩ ⟨2, ![1024, 8192]⟩ 1 8 c WV h3
      ∧ m ((c : Thread nD τ).loc main_arg4) = Layout.block ⟨2, ![1024, 1024]⟩ ⟨2, ![8192, 1024]⟩ 0 8 c WO h4)
    (c : Dev nD) (h) : OUT m c = Layout.block ⟨3, ![1, 256, 1024]⟩ ⟨3, ![1, 2048, 1024]⟩ 1 8 c (RefStages.res X WQ WK WV WO) h := by
  have ex : ∀ (r : Fin 2048) (a : Fin 1024), ∃ y : ℝ, X (ix3 0 r a) = (y : EReal) := fun r a => by
    obtain ⟨d, i, rfl⟩ := row_split r
    have := fin0 _ _ _ _ _ (hpre d).1 i a
    rwa [(hb d).1, block_rows3] at this
  have eq : ∀ (a : Fin 1024) (n : Fin 8192), ∃ y : ℝ, WQ (ix2 a n) = (y : EReal) := fun a n => by
    obtain ⟨d, i, rfl⟩ := col_split n
    have := fin1 _ _ _ _ _ (hpre d).2.1 a i
    rwa [(hb d).2.1, block_cols] at this
  have ek : ∀ (a : Fin 1024) (n : Fin 8192), ∃ y : ℝ, WK (ix2 a n) = (y : EReal) := fun a n => by
    obtain ⟨d, i, rfl⟩ := col_split n
    have := fin2 _ _ _ _ _ (hpre d).2.2 a i
    rwa [(hb d).2.2.1, block_cols] at this
  choose x hx using ex
  choose q hq using eq
  choose k hk using ek
  have H : Blocks m x q k (fun a n => WV (ix2 a n)) (fun n e => WO (ix2 n e)) :=
    { hx := fun d i a => by rw [(hb d).1, block_rows3, hx]
      hq := fun d a n => by rw [(hb d).2.1, block_cols, hq]
      hk := fun d a n => by rw [(hb d).2.2.1, block_cols, hk]
      hv := fun d a n => by rw [(hb d).2.2.2.1, block_cols]
      ho := fun d n e => by rw [(hb d).2.2.2.2, block_rows] }
  funext j
  obtain ⟨i, d, rfl⟩ : ∃ (i : Fin 256) (d : Fin 1024), j = ix3 0 i d :=
    ⟨j 1, j 2, by funext b; fin_cases b <;> first | rfl | exact Subsingleton.elim (α := Fin 1) _ _⟩
  rw [block_rows3, RefStages.res_val hx hq hk]
  exact out_val H c i d

end Cert.RingProof

namespace Cert.Proof

open Idealize.ShloMosaic Idealize.SL.Sem

/-- The value claim: each device returns its block of the reference's result, and the arguments are unchanged. -/
theorem algebraicKernelIdeal :
    Cert.algebraic_KernelIdeal_ReferenceIdeal_pre_scores_finite_KernelIdeal (hPre_scores_finite_KernelIdeal := RingProof.preK) := by
  intro m g m' g' hpre hb
  refine ⟨Cert.ReferenceIdeal.Value.res_main_v64 m' 0, ?_, ?_⟩
  · refine (θ_run Cert.KernelIdeal.defs _ _).mono (fun r h c => ?_) (RingProof.run_main m g)
    refine ⟨(h.1 c (5 : Fin 6)).trans ((RingProof.final_out m g c).trans ?_),
      (h.1 c (0 : Fin 6)).trans (RingProof.finalA_in m g c (0 : Fin 6) rfl), (h.1 c (1 : Fin 6)).trans (RingProof.finalA_in m g c (1 : Fin 6) rfl),
      (h.1 c (3 : Fin 6)).trans (RingProof.finalA_in m g c (3 : Fin 6) rfl), (h.1 c (4 : Fin 6)).trans (RingProof.finalA_in m g c (4 : Fin 6) rfl),
      (h.1 c (2 : Fin 6)).trans (RingProof.finalA_in m g c (2 : Fin 6) rfl)⟩
    rw [RefStages.res_main_eq]
    exact RingProof.out_blocks m _ _ _ _ _ _ _ _ _ _ hpre hb c _
  · exact (θ_run Cert.ReferenceIdeal.defs _ _).mono (fun r h => h 0) (Cert.ReferenceIdeal.Value.run (F := Ideal) m' g')

end Cert.Proof

end
-- ==== Proof.lean ====
/-
The certificate: the claims, each from its module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, RingProof.preK, RingProof.preR,
  frameKernel, frameKernelIdeal, fun m g _ => frame_any m g, frameReferenceIdeal, fun m g _ => frameReferenceIdeal m g trivial,
  preservesKernel, algebraicKernelIdeal⟩

end Cert.Proof

end
